-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_scores [hPre_finite_scores : Cert.Pre_finite_scores.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_scores.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).1 = (fun _ => 1#1)
    ∧ (Cert.Pre_finite_scores.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.1 = (fun _ => 1#1)
    ∧ (Cert.Pre_finite_scores.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_scores [hAttnReferenceIdeal : Cert.AttnReferenceIdeal.Facts] [hPre_finite_scores : Cert.Pre_finite_scores.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_scores m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attn_AttnIdeal : Prop :=
  True

def algebraic_AttnIdeal_AttnReferenceIdeal_pre_finite_scores [hAttnIdeal : Cert.AttnIdeal.Facts] [hAttnReferenceIdeal : Cert.AttnReferenceIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_scores m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v33) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v2) = v0 c
          ∧ r.2.mem ((c.tc : Thread Cert.MidReferenceIdeal.nD Cert.MidReferenceIdeal.τ).loc Cert.MidReferenceIdeal.main_v16) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v48_0)) (v1 : (c : Dev Cert.FrontIdeal.nD) → Buf (Elt Ideal) ((c.tc : Thread Cert.FrontIdeal.nD Cert.FrontIdeal.τ).loc Cert.FrontIdeal.main_v48_1)) (v2 : (c : Dev Cert.FrontIdeal.nD) → Buf (Elt Ideal) ((c.tc : Thread Cert.FrontIdeal.nD Cert.FrontIdeal.τ).loc Cert.FrontIdeal.main_v48_2)) (v3 : (c : Dev Cert.FrontIdeal.nD) → Buf (Elt Ideal) ((c.tc : Thread Cert.FrontIdeal.nD Cert.FrontIdeal.τ).loc Cert.FrontIdeal.main_v48_3)) (v4 : (c : Dev Cert.FrontIdeal.nD) → Buf (Elt Ideal) ((c.tc : Thread Cert.FrontIdeal.nD Cert.FrontIdeal.τ).loc Cert.FrontIdeal.main_v48_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v48_0) = v0 c
          ∧ r.2.mem ((c.tc : Thread Cert.FrontIdeal.nD Cert.FrontIdeal.τ).loc Cert.FrontIdeal.main_v48_1) = v1 c
          ∧ r.2.mem ((c.tc : Thread Cert.FrontIdeal.nD Cert.FrontIdeal.τ).loc Cert.FrontIdeal.main_v48_2) = v2 c
          ∧ r.2.mem ((c.tc : Thread Cert.FrontIdeal.nD Cert.FrontIdeal.τ).loc Cert.FrontIdeal.main_v48_3) = v3 c
          ∧ r.2.mem ((c.tc : Thread Cert.FrontIdeal.nD Cert.FrontIdeal.τ).loc Cert.FrontIdeal.main_v48_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v115) = v0 c
          ∧ r.2.mem ((c.tc : Thread Cert.FrontReferenceIdeal.nD Cert.FrontReferenceIdeal.τ).loc Cert.FrontReferenceIdeal.main_v117) = v1 c
          ∧ r.2.mem ((c.tc : Thread Cert.FrontReferenceIdeal.nD Cert.FrontReferenceIdeal.τ).loc Cert.FrontReferenceIdeal.main_v119) = v2 c
          ∧ r.2.mem ((c.tc : Thread Cert.FrontReferenceIdeal.nD Cert.FrontReferenceIdeal.τ).loc Cert.FrontReferenceIdeal.main_v121) = v3 c
          ∧ r.2.mem ((c.tc : Thread Cert.FrontReferenceIdeal.nD Cert.FrontReferenceIdeal.τ).loc Cert.FrontReferenceIdeal.main_v123) = v4 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6))

def preserves_Proj_ProjIdeal : Prop :=
  IdealRules.bf16_pair.PackStatement Cert.ProjIdeal.S1024x256
  ∧ IdealRules.bf16_pair.Statement Cert.ProjIdeal.S2048x128 Cert.ProjIdeal.S1024x128

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hMid : Cert.Mid.Facts) (hMidIdeal : Cert.MidIdeal.Facts) (hMidReferenceIdeal : Cert.MidReferenceIdeal.Facts) (hFront : Cert.Front.Facts) (hFrontIdeal : Cert.FrontIdeal.Facts) (hFrontReferenceIdeal : Cert.FrontReferenceIdeal.Facts) (hProj : Cert.Proj.Facts) (hProjIdeal : Cert.ProjIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnReferenceIdeal (hAttnReferenceIdeal := hAttnReferenceIdeal)
    ∧ quiescent_AttnReferenceIdeal_pre_finite_scores (hAttnReferenceIdeal := hAttnReferenceIdeal) (hPre_finite_scores := hPre_finite_scores)
    ∧ quiescent_Mid (hMid := hMid)
    ∧ quiescent_MidIdeal (hMidIdeal := hMidIdeal)
    ∧ quiescent_MidReferenceIdeal (hMidReferenceIdeal := hMidReferenceIdeal)
    ∧ quiescent_Front (hFront := hFront)
    ∧ quiescent_FrontIdeal (hFrontIdeal := hFrontIdeal)
    ∧ quiescent_FrontReferenceIdeal (hFrontReferenceIdeal := hFrontReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnReferenceIdeal_pre_finite_scores (hAttnIdeal := hAttnIdeal) (hAttnReferenceIdeal := hAttnReferenceIdeal) (hPre_finite_scores := hPre_finite_scores)
    ∧ preserves_Mid_MidIdeal
    ∧ algebraic_MidIdeal_MidReferenceIdeal (hMidIdeal := hMidIdeal) (hMidReferenceIdeal := hMidReferenceIdeal)
    ∧ preserves_Front_FrontIdeal
    ∧ algebraic_FrontIdeal_FrontReferenceIdeal (hFrontIdeal := hFrontIdeal) (hFrontReferenceIdeal := hFrontReferenceIdeal)
    ∧ preserves_Proj_ProjIdeal
    ∧ algebraic_ProjIdeal_ProjReferenceIdeal (hProjIdeal := hProjIdeal) (hProjReferenceIdeal := hProjReferenceIdeal)
-- ==== Pre_finite_scores.lean ====
abbrev S32x2048x2048 : Shape := ⟨3, ![32, 2048, 2048]⟩
abbrev S32x2048x1024 : Shape := ⟨3, ![32, 2048, 1024]⟩
abbrev S32x2048x128 : Shape := ⟨3, ![32, 2048, 128]⟩
abbrev S_ : Shape := ⟨0, ![]⟩

class Facts : Prop where
  bcast_S_S32x2048x2048 : S_.BroadcastsInDim S32x2048x2048 (![] : Fin 0 → Fin S32x2048x2048.rank)
  bcast_S_S32x2048x1024 : S_.BroadcastsInDim S32x2048x1024 (![] : Fin 0 → Fin S32x2048x1024.rank)
  bcast_S_S32x2048x128 : S_.BroadcastsInDim S32x2048x128 (![] : Fin 0 → Fin S32x2048x128.rank)

variable [Facts]

def fn {F : FTy → Type} [FloatOps F] (main_arg0 : FVec F S32x2048x2048 .bf16) (main_arg1 : FVec F S32x2048x1024 .bf16) (main_arg2 : FVec F S32x2048x128 .bf16) (main_arg3 : FVec F S32x2048x1024 .bf16) (main_arg4 : FVec F S32x2048x1024 .bf16) : IVec S32x2048x2048 1 × IVec S32x2048x1024 1 × IVec S32x2048x128 1 :=
  let main_v0 : FVec F S32x2048x2048 .bf16 := Host.absf main_arg0
  let main_cst : FVec F S_ .bf16 := constant S_ .bf16 0x7F80#16
  let main_v1 : FVec F S32x2048x2048 .bf16 := broadcastInDim S32x2048x2048 ![] bcast_S_S32x2048x2048 main_cst
  let main_v2 : IVec S32x2048x2048 1 := cmpf .olt main_v0 main_v1
  let main_v3 : FVec F S32x2048x1024 .bf16 := Host.absf main_arg1
  let main_cst_0 : FVec F S_ .bf16 := constant S_ .bf16 0x7F80#16
  let main_v4 : FVec F S32x2048x1024 .bf16 := broadcastInDim S32x2048x1024 ![] bcast_S_S32x2048x1024 main_cst_0
  let main_v5 : IVec S32x2048x1024 1 := cmpf .olt main_v3 main_v4
  let main_v6 : FVec F S32x2048x128 .bf16 := Host.absf main_arg2
  let main_cst_1 : FVec F S_ .bf16 := constant S_ .bf16 0x7F80#16
  let main_v7 : FVec F S32x2048x128 .bf16 := broadcastInDim S32x2048x128 ![] bcast_S_S32x2048x128 main_cst_1
  let main_v8 : IVec S32x2048x128 1 := cmpf .olt main_v6 main_v7
  (main_v2, main_v5, main_v8)
-- ==== Kernel.lean ====
abbrev S2x16x8192x128 : Shape := ⟨4, ![2, 16, 8192, 128]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1x1x8192x128 : Shape := ⟨4, ![1, 1, 8192, 128]⟩
abbrev S8x128x1024 : Shape := ⟨3, ![8, 128, 1024]⟩
abbrev S1x1x1024x128 : Shape := ⟨4, ![1, 1, 1024, 128]⟩
abbrev S1024x128 : Shape := ⟨2, ![1024, 128]⟩
abbrev S128x1024 : Shape := ⟨2, ![128, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x16x8192x128, .i32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S32x2048x1024, .f32⟩
  | .local _ .vmem, ⟨0, _⟩ => ⟨S1x1x8192x128, .i32⟩
  | .local _ .vmem, ⟨1, _⟩ => ⟨S1x1x8192x128, .i32⟩
  | .local _ .vmem, ⟨2, _⟩ => ⟨S8x128x1024, .f32⟩
  | .local _ .vmem, ⟨3, _⟩ => ⟨S8x128x1024, .f32⟩
  | .local _ .vmem, ⟨4, _⟩ => ⟨S1024x1024, .bf16⟩
  | .local _ .vmem, ⟨5, _⟩ => ⟨S1x1024, .f32⟩
  | .local _ .vmem, ⟨6, _⟩ => ⟨S8x128x1024, .f32⟩
  | .local _ .vmem, ⟨7, _⟩ => ⟨S8x128x1024, .f32⟩
  | _, _ => ⟨S2x16x8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 16, 2], ![false, false, false]⟩

def k0_off1 (i : grid0.Coords) (c0_i32 : BitVec 32) : Fin 4 → Nat :=
  let c0 : Index := 0#32
  let c0_0 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S1x1x8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x16x8192x128 : Shape := ⟨4, ![2, 16, 8192, 128]⟩
abbrev S32x2048x1024 : Shape := ⟨3, ![32, 2048, 1024]⟩
abbrev S1024x1024 : Shape := ⟨2, ![1024, 1024]⟩
abbrev S1024 : Shape := ⟨1, ![1024]⟩
abbrev S2x16x1024x8x128 : Shape := ⟨5, ![2, 16, 1024, 8, 128]⟩
abbrev S_ : Shape := ⟨0, ![]⟩
abbrev S1x2x16x1024x8x128 : Shape := ⟨6, ![1, 2, 16, 1024, 8, 128]⟩
abbrev S2x2x16x1024x8x128 : Shape := ⟨6, ![2, 2, 16, 1024, 8, 128]⟩
abbrev S2x8x2x16x128x1024 : Shape := ⟨6, ![2, 8, 2, 16, 128, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x16x8192x128, .i32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S2x16x1024x8x128, .i32⟩
  | .hbm, ⟨5, _⟩ => ⟨S_, .i32⟩
  | .hbm, ⟨6, _⟩ => ⟨S2x16x1024x8x128, .i32⟩
  | .hbm, ⟨7, _⟩ => ⟨S2x16x1024x8x128, .i32⟩
  | .hbm, ⟨8, _⟩ => ⟨S2x16x1024x8x128, .f32⟩
  | .hbm, ⟨9, _⟩ => ⟨S_, .i32⟩
  | .hbm, ⟨10, _⟩ => ⟨S2x16x1024x8x128, .i32⟩
  | .hbm, ⟨11, _⟩ => ⟨S2x16x1024x8x128, .i32⟩
  | .hbm, ⟨12, _⟩ => ⟨S2x16x1024x8x128, .f32⟩
  | .hbm, ⟨13, _⟩ => ⟨S1x2x16x1024x8x128, .f32⟩
  | .hbm, ⟨14, _⟩ => ⟨S1x2x16x1024x8x128, .f32⟩
  | .hbm, ⟨15, _⟩ => ⟨S2x2x16x1024x8x128, .f32⟩
  | .hbm, ⟨16, _⟩ => ⟨S2x8x2x16x128x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | _, _ => ⟨S2x16x8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Attn.lean ====
abbrev S32x2048x2048 : Shape := ⟨3, ![32, 2048, 2048]⟩
abbrev S32x2048x1024 : Shape := ⟨3, ![32, 2048, 1024]⟩
abbrev S32x2048x128 : Shape := ⟨3, ![32, 2048, 128]⟩
abbrev S1x2048x512 : Shape := ⟨3, ![1, 2048, 512]⟩
abbrev S1x2048x256 : Shape := ⟨3, ![1, 2048, 256]⟩
abbrev S1x2048x128 : Shape := ⟨3, ![1, 2048, 128]⟩
abbrev S2x2048x256 : Shape := ⟨3, ![2, 2048, 256]⟩
abbrev S2048x128 : Shape := ⟨2, ![2048, 128]⟩
abbrev S1x256x256 : Shape := ⟨3, ![1, 256, 256]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩

abbrev nBuf : Space → Nat
  | .hbm => 6
  | .vmem => 14
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x128, .bf16⟩
  | .hbm, ⟨3, _⟩ => ⟨S32x2048x1024, .bf16⟩
  | .hbm, ⟨4, _⟩ => ⟨S32x2048x1024, .bf16⟩
  | .hbm, ⟨5, _⟩ => ⟨S32x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S2x2048x256, .bf16⟩
  | .local _ .vmem, ⟨13, _⟩ => ⟨S2x2048x256, .bf16⟩
  | _, _ => ⟨S32x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnReferenceIdeal.lean ====
abbrev S32x2048x2048 : Shape := ⟨3, ![32, 2048, 2048]⟩
abbrev S32x2048x1024 : Shape := ⟨3, ![32, 2048, 1024]⟩
abbrev S32x2048x128 : Shape := ⟨3, ![32, 2048, 128]⟩
abbrev S32x2048x8x256 : Shape := ⟨4, ![32, 2048, 8, 256]⟩
abbrev S32x2048x8x128 : Shape := ⟨4, ![32, 2048, 8, 128]⟩
abbrev S32x8x2048x2048 : Shape := ⟨4, ![32, 8, 2048, 2048]⟩
abbrev S32x2048x2048x8 : Shape := ⟨4, ![32, 2048, 2048, 8]⟩
abbrev S_ : Shape := ⟨0, ![]⟩
abbrev S32x8x2048 : Shape := ⟨3, ![32, 8, 2048]⟩
abbrev S32x8x2048x1 : Shape := ⟨4, ![32, 8, 2048, 1]⟩
abbrev S32x8x128x2048 : Shape := ⟨4, ![32, 8, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x128, .bf16⟩
  | .hbm, ⟨3, _⟩ => ⟨S32x2048x1024, .bf16⟩
  | .hbm, ⟨4, _⟩ => ⟨S32x2048x1024, .bf16⟩
  | .hbm, ⟨5, _⟩ => ⟨S32x2048x2048, .f32⟩
  | .hbm, ⟨6, _⟩ => ⟨S32x2048x1024, .f32⟩
  | .hbm, ⟨7, _⟩ => ⟨S32x2048x128, .f32⟩
  | .hbm, ⟨8, _⟩ => ⟨S32x2048x1024, .f32⟩
  | .hbm, ⟨9, _⟩ => ⟨S32x2048x1024, .f32⟩
  | .hbm, ⟨10, _⟩ => ⟨S32x2048x8x256, .f32⟩
  | .hbm, ⟨11, _⟩ => ⟨S32x2048x8x128, .f32⟩
  | .hbm, ⟨12, _⟩ => ⟨S32x2048x8x128, .f32⟩
  | .hbm, ⟨13, _⟩ => ⟨S32x2048x8x128, .f32⟩
  | .hbm, ⟨14, _⟩ => ⟨S32x8x2048x2048, .f32⟩
  | .hbm, ⟨15, _⟩ => ⟨S32x2048x8x128, .f32⟩
  | .hbm, ⟨16, _⟩ => ⟨S32x2048x2048x8, .f32⟩
  | .hbm, ⟨17, _⟩ => ⟨S32x8x2048x2048, .f32⟩
  | .hbm, ⟨18, _⟩ => ⟨S32x8x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x8x2048x2048, .f32⟩
  | .hbm, ⟨23, _⟩ => ⟨S32x8x2048x2048, .f32⟩
  | .hbm, ⟨24, _⟩ => ⟨S_, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x8x128x2048, .f32⟩
  | .hbm, ⟨39, _⟩ => ⟨S32x2048x8x128, .f32⟩
  | .hbm, ⟨40, _⟩ => ⟨S32x2048x1024, .f32⟩
  | .hbm, ⟨41, _⟩ => ⟨S32x2048x1024, .f32⟩
  | .hbm, ⟨42, _⟩ => ⟨S32x2048x1024, .bf16⟩
  | _, _ => ⟨S32x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Mid.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S65536x1024, .f32⟩
  | .hbm, ⟨7, _⟩ => ⟨S65536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidReferenceIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Front.lean ====
abbrev S32x2048x1024 : Shape := ⟨3, ![32, 2048, 1024]⟩
abbrev S1024 : Shape := ⟨1, ![1024]⟩
abbrev S1024x1728 : Shape := ⟨2, ![1024, 1728]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S65536x1024 : Shape := ⟨2, ![65536, 1024]⟩
abbrev S1024x704 : Shape := ⟨2, ![1024, 704]⟩
abbrev S_ : Shape := ⟨0, ![]⟩
abbrev S1024x64 : Shape := ⟨2, ![1024, 64]⟩
abbrev S1024x1024 : Shape := ⟨2, ![1024, 1024]⟩
abbrev S1024x1792 : Shape := ⟨2, ![1024, 1792]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x1024 : Shape := ⟨2, ![1, 1024]⟩
abbrev S1x384 : Shape := ⟨2, ![1, 384]⟩
abbrev S1x256 : Shape := ⟨2, ![1, 256]⟩
abbrev S65536x2048 : Shape := ⟨2, ![65536, 2048]⟩
abbrev S65536x128 : Shape := ⟨2, ![65536, 128]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S512x1792 : Shape := ⟨2, ![512, 1792]⟩
abbrev S512x384 : Shape := ⟨2, ![512, 384]⟩
abbrev S512x1536 : Shape := ⟨2, ![512, 1536]⟩
abbrev S512x256 : Shape := ⟨2, ![512, 256]⟩

abbrev nBuf : Space → Nat
  | .hbm => 67
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1728, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S65536x1024, .f32⟩
  | .hbm, ⟨8, _⟩ => ⟨S1024x704, .f32⟩
  | .hbm, ⟨9, _⟩ => ⟨S_, .f32⟩
  | .hbm, ⟨10, _⟩ => ⟨S1024x64, .f32⟩
  | .hbm, ⟨11, _⟩ => ⟨S1024x1024, .f32⟩
  | .hbm, ⟨12, _⟩ => ⟨S1024x1792, .f32⟩
  | .hbm, ⟨13, _⟩ => ⟨S1024x1792, .bf16⟩
  | .hbm, ⟨14, _⟩ => ⟨S_, .f32⟩
  | .hbm, ⟨15, _⟩ => ⟨S384x1536, .f32⟩
  | .hbm, ⟨16, _⟩ => ⟨S384x1536, .f32⟩
  | .hbm, ⟨17, _⟩ => ⟨S384x8x192, .f32⟩
  | .hbm, ⟨18, _⟩ => ⟨S384x8x128, .f32⟩
  | .hbm, ⟨19, _⟩ => ⟨S384x1024, .f32⟩
  | .hbm, ⟨20, _⟩ => ⟨S384x8x64, .f32⟩
  | .hbm, ⟨21, _⟩ => ⟨S384x512, .f32⟩
  | .hbm, ⟨22, _⟩ => ⟨S384x1536, .f32⟩
  | .hbm, ⟨23, _⟩ => ⟨S384x1536, .bf16⟩
  | .hbm, ⟨24, _⟩ => ⟨S256x8x256, .f32⟩
  | .hbm, ⟨25, _⟩ => ⟨S256x8x128, .f32⟩
  | .hbm, ⟨26, _⟩ => ⟨S256x1024, .f32⟩
  | .hbm, ⟨27, _⟩ => ⟨S256x8x128, .f32⟩
  | .hbm, ⟨28, _⟩ => ⟨S256x1024, .f32⟩
  | .hbm, ⟨29, _⟩ => ⟨S256x2048, .f32⟩
  | .hbm, ⟨30, _⟩ => ⟨S256x2048, .bf16⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S2048, .f32⟩
  | .hbm, ⟨48, _⟩ => ⟨S2048x1, .f32⟩
  | .hbm, ⟨49, _⟩ => ⟨S1x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x128, .f32⟩
  | .hbm, ⟨56, _⟩ => ⟨S2048x32, .f32⟩
  | .hbm, ⟨57, _⟩ => ⟨S2048x32, .f32⟩
  | .hbm, ⟨58, _⟩ => ⟨S2048x128, .f32⟩
  | .hbm, ⟨59, _⟩ => ⟨S1x1024, .f32⟩
  | .hbm, ⟨60, _⟩ => ⟨S1x384, .f32⟩
  | .hbm, ⟨61, _⟩ => ⟨S1x256, .f32⟩
  | .hbm, ⟨62, _⟩ => ⟨S65536x2048, .bf16⟩
  | .hbm, ⟨63, _⟩ => ⟨S65536x1024, .bf16⟩
  | .hbm, ⟨64, _⟩ => ⟨S65536x128, .bf16⟩
  | .hbm, ⟨65, _⟩ => ⟨S65536x1024, .bf16⟩
  | .hbm, ⟨66, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x384, .f32⟩
  | .local _ .vmem, ⟨5, _⟩ => ⟨S384x1536, .bf16⟩
  | .local _ .vmem, ⟨6, _⟩ => ⟨S1x256, .f32⟩
  | .local _ .vmem, ⟨7, _⟩ => ⟨S256x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev main_v48_3 : Ref sig .tc := ⟨.hbm, 65, rfl⟩
abbrev main_v48_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FrontReferenceIdeal.lean ====
abbrev S32x2048x1024 : Shape := ⟨3, ![32, 2048, 1024]⟩
abbrev S1024 : Shape := ⟨1, ![1024]⟩
abbrev S1024x1728 : Shape := ⟨2, ![1024, 1728]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1728 : Shape := ⟨3, ![32, 2048, 1728]⟩
abbrev S32x2048x384 : Shape := ⟨3, ![32, 2048, 384]⟩
abbrev S32x2048x256 : Shape := ⟨3, ![32, 2048, 256]⟩
abbrev S32x2048x64 : Shape := ⟨3, ![32, 2048, 64]⟩
abbrev S1x1x384 : Shape := ⟨3, ![1, 1, 384]⟩
abbrev S32x2048x1536 : Shape := ⟨3, ![32, 2048, 1536]⟩
abbrev S32x2048x8x192 : Shape := ⟨4, ![32, 2048, 8, 192]⟩
abbrev S1x1x256 : Shape := ⟨3, ![1, 1, 256]⟩
abbrev S32x2048x2048 : Shape := ⟨3, ![32, 2048, 2048]⟩
abbrev S32x2048x8x256 : Shape := ⟨4, ![32, 2048, 8, 256]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S32x2048x8x64 : Shape := ⟨4, ![32, 2048, 8, 64]⟩
abbrev S2048x1x32 : Shape := ⟨3, ![2048, 1, 32]⟩
abbrev S32x2048x8x32 : Shape := ⟨4, ![32, 2048, 8, 32]⟩
abbrev S1x2048x1x32 : Shape := ⟨4, ![1, 2048, 1, 32]⟩
abbrev S32x2048x32 : Shape := ⟨3, ![32, 2048, 32]⟩
abbrev S1x2048x32 : Shape := ⟨3, ![1, 2048, 32]⟩
abbrev S32x2048x8x128 : Shape := ⟨4, ![32, 2048, 8, 128]⟩
abbrev S32x2048x128 : Shape := ⟨3, ![32, 2048, 128]⟩
abbrev S65536x2048 : Shape := ⟨2, ![65536, 2048]⟩
abbrev S65536x1024 : Shape := ⟨2, ![65536, 1024]⟩
abbrev S65536x128 : Shape := ⟨2, ![65536, 128]⟩

abbrev nBuf : Space → Nat
  | .hbm => 156
  | .vmem => 0
  | .smem => 0
  | _ => 0

abbrev hbmTy0_0 (i : Nat) : BufTy := match i % 128 with
  | 0 => ⟨S32x2048x1024, .f32⟩
  | 1 => ⟨S1024, .f32⟩
  | 2 => ⟨S1024x1728, .f32⟩
  | 3 => ⟨S384, .f32⟩
  | 4 => ⟨S384x1536, .f32⟩
  | 5 => ⟨S256, .f32⟩
  | 6 => ⟨S256x2048, .f32⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S32x2048x1728, .f32⟩
  | 24 => ⟨S32x2048x384, .f32⟩
  | 25 => ⟨S32x2048x256, .f32⟩
  | 26 => ⟨S32x2048x64, .f32⟩
  | 27 => ⟨S32x2048x1024, .f32⟩
  | 28 => ⟨S32x2048x384, .f32⟩
  | 29 => ⟨S_, .f32⟩
  | 30 => ⟨S32x2048, .f32⟩
  | 31 => ⟨S32x2048x1, .f32⟩
  | 32 => ⟨S_, .f32⟩
  | 33 => ⟨S32x2048x1, .f32⟩
  | 34 => ⟨S32x2048x1, .f32⟩
  | 35 => ⟨S_, .f32⟩
  | 36 => ⟨S32x2048x1, .f32⟩
  | 37 => ⟨S32x2048x1, .f32⟩
  | 38 => ⟨S32x2048x1, .f32⟩
  | 39 => ⟨S32x2048x384, .f32⟩
  | 40 => ⟨S32x2048x384, .f32⟩
  | 41 => ⟨S1x1x384, .f32⟩
  | 42 => ⟨S32x2048x384, .f32⟩
  | 43 => ⟨S32x2048x384, .f32⟩
  | 44 => ⟨S32x2048x1536, .f32⟩
  | 45 => ⟨S_, .f32⟩
  | 46 => ⟨S32x2048x1536, .f32⟩
  | 47 => ⟨S32x2048x1536, .f32⟩
  | 48 => ⟨S32x2048x8x192, .f32⟩
  | 49 => ⟨S32x2048x256, .f32⟩
  | 50 => ⟨S_, .f32⟩
  | 51 => ⟨S32x2048, .f32⟩
  | 52 => ⟨S32x2048x1, .f32⟩
  | 53 => ⟨S_, .f32⟩
  | 54 => ⟨S32x2048x1, .f32⟩
  | 55 => ⟨S32x2048x1, .f32⟩
  | 56 => ⟨S_, .f32⟩
  | 57 => ⟨S32x2048x1, .f32⟩
  | 58 => ⟨S32x2048x1, .f32⟩
  | 59 => ⟨S32x2048x1, .f32⟩
  | 60 => ⟨S32x2048x256, .f32⟩
  | 61 => ⟨S32x2048x256, .f32⟩
  | 62 => ⟨S1x1x256, .f32⟩
  | 63 => ⟨S32x2048x256, .f32⟩
  | 64 => ⟨S32x2048x256, .f32⟩
  | 65 => ⟨S32x2048x2048, .f32⟩
  | 66 => ⟨S32x2048x8x256, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S2048, .f32⟩
  | 84 => ⟨S2048x1, .f32⟩
  | 85 => ⟨S1x32, .f32⟩
  | 86 => ⟨S2048x32, .f32⟩
  | 87 => ⟨S2048x32, .f32⟩
  | 88 => ⟨S2048x32, .f32⟩
  | 89 => ⟨S2048x32, .f32⟩
  | 90 => ⟨S2048x32, .f32⟩
  | 91 => ⟨S32x2048x8x64, .f32⟩
  | 92 => ⟨S2048x1x32, .f32⟩
  | 93 => ⟨S2048x1x32, .f32⟩
  | 94 => ⟨S32x2048x8x32, .f32⟩
  | 95 => ⟨S32x2048x8x32, .f32⟩
  | 96 => ⟨S1x2048x1x32, .f32⟩
  | 97 => ⟨S32x2048x8x32, .f32⟩
  | 98 => ⟨S32x2048x8x32, .f32⟩
  | 99 => ⟨S1x2048x1x32, .f32⟩
  | 100 => ⟨S32x2048x8x32, .f32⟩
  | 101 => ⟨S32x2048x8x32, .f32⟩
  | 102 => ⟨S32x2048x8x32, .f32⟩
  | 103 => ⟨S1x2048x1x32, .f32⟩
  | 104 => ⟨S32x2048x8x32, .f32⟩
  | 105 => ⟨S32x2048x8x32, .f32⟩
  | 106 => ⟨S1x2048x1x32, .f32⟩
  | 107 => ⟨S32x2048x8x32, .f32⟩
  | 108 => ⟨S32x2048x8x32, .f32⟩
  | 109 => ⟨S32x2048x8x32, .f32⟩
  | 110 => ⟨S32x2048x8x64, .f32⟩
  | 111 => ⟨S32x2048x32, .f32⟩
  | 112 => ⟨S32x2048x32, .f32⟩
  | 113 => ⟨S1x2048x32, .f32⟩
  | 114 => ⟨S32x2048x32, .f32⟩
  | 115 => ⟨S32x2048x32, .f32⟩
  | 116 => ⟨S1x2048x32, .f32⟩
  | 117 => ⟨S32x2048x32, .f32⟩
  | 118 => ⟨S32x2048x32, .f32⟩
  | 119 => ⟨S32x2048x32, .f32⟩
  | 120 => ⟨S1x2048x32, .f32⟩
  | 121 => ⟨S32x2048x32, .f32⟩
  | 122 => ⟨S32x2048x32, .f32⟩
  | 123 => ⟨S1x2048x32, .f32⟩
  | 124 => ⟨S32x2048x32, .f32⟩
  | 125 => ⟨S32x2048x32, .f32⟩
  | 126 => ⟨S32x2048x32, .f32⟩
  | 127 => ⟨S32x2048x64, .f32⟩
  | _ => ⟨S32x2048x1024, .f32⟩

abbrev hbmTy0_1 (i : Nat) : BufTy := match i % 128 with
  | 0 => ⟨S32x2048x8x128, .f32⟩
  | 1 => ⟨S_, .f32⟩
  | 2 => ⟨S32x2048x8x64, .f32⟩
  | 3 => ⟨S32x2048x8x256, .f32⟩
  | 4 => ⟨S_, .f32⟩
  | 5 => ⟨S32x2048x64, .f32⟩
  | 6 => ⟨S32x2048x128, .f32⟩
  | 7 => ⟨S32x2048x8x128, .f32⟩
  | 8 => ⟨S32x2048x8x128, .f32⟩
  | 9 => ⟨S32x2048x1024, .f32⟩
  | 10 => ⟨S32x2048x1024, .f32⟩
  | 11 => ⟨S_, .f32⟩
  | 12 => ⟨S32x2048x1024, .f32⟩
  | 13 => ⟨S32x2048x1024, .f32⟩
  | 14 => ⟨S_, .f32⟩
  | 15 => ⟨S32x2048x1024, .f32⟩
  | 16 => ⟨S32x2048x1024, .f32⟩
  | 17 => ⟨S32x2048x1024, .f32⟩
  | 18 => ⟨S65536x2048, .f32⟩
  | 19 => ⟨S65536x2048, .bf16⟩
  | 20 => ⟨S65536x1024, .f32⟩
  | 21 => ⟨S65536x1024, .bf16⟩
  | 22 => ⟨S65536x128, .f32⟩
  | 23 => ⟨S65536x128, .bf16⟩
  | 24 => ⟨S65536x1024, .f32⟩
  | 25 => ⟨S65536x1024, .bf16⟩
  | 26 => ⟨S65536x1024, .f32⟩
  | 27 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_14 : Ref sig .tc := ⟨.hbm, 129, rfl⟩
abbrev main_v107 : Ref sig .tc := ⟨.hbm, 130, rfl⟩
abbrev main_v108 : Ref sig .tc := ⟨.hbm, 131, rfl⟩
abbrev main_cst_15 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_call0_v0 : Ref sig .tc := ⟨.hbm, 137, rfl⟩
abbrev main_call0_v1 : Ref sig .tc := ⟨.hbm, 138, rfl⟩
abbrev main_call0_cst : Ref sig .tc := ⟨.hbm, 139, rfl⟩
abbrev main_call0_v2 : Ref sig .tc := ⟨.hbm, 140, rfl⟩
abbrev main_call0_v3 : Ref sig .tc := ⟨.hbm, 141, rfl⟩
abbrev main_call0_cst_0 : Ref sig .tc := ⟨.hbm, 142, rfl⟩
abbrev main_call0_v4 : Ref sig .tc := ⟨.hbm, 143, rfl⟩
abbrev main_call0_v5 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Proj.lean ====
abbrev S32x2048x1024 : Shape := ⟨3, ![32, 2048, 1024]⟩
abbrev S1024x4096 : Shape := ⟨2, ![1024, 4096]⟩
abbrev S4096x1024 : Shape := ⟨2, ![4096, 1024]⟩
abbrev S2x16x4096x16x128 : Shape := ⟨5, ![2, 16, 4096, 16, 128]⟩
abbrev S16x256x1024 : Shape := ⟨3, ![16, 256, 1024]⟩
abbrev S1024x1024 : Shape := ⟨2, ![1024, 1024]⟩
abbrev S1x2x1024x16x128 : Shape := ⟨5, ![1, 2, 1024, 16, 128]⟩
abbrev S2x256x1024 : Shape := ⟨3, ![2, 256, 1024]⟩
abbrev S512x1024 : Shape := ⟨2, ![512, 1024]⟩
abbrev S1024x512 : Shape := ⟨2, ![1024, 512]⟩
abbrev S1024x256 : Shape := ⟨2, ![1024, 256]⟩
abbrev S1024x128 : Shape := ⟨2, ![1024, 128]⟩
abbrev S2048x128 : Shape := ⟨2, ![2048, 128]⟩
abbrev S1024x2x128 : Shape := ⟨3, ![1024, 2, 128]⟩
abbrev S1x1x1024x2x128 : Shape := ⟨5, ![1, 1, 1024, 2, 128]⟩
abbrev S2x16x16x128x4096 : Shape := ⟨5, ![2, 16, 16, 128, 4096]⟩
abbrev S32x2048x4096 : Shape := ⟨3, ![32, 2048, 4096]⟩

abbrev nBuf : Space → Nat
  | .hbm => 7
  | .vmem => 6
  | .smem => 0
  | _ => 0

abbrev bufTy : (tb : Table) → Fin (tcTables nBuf tb) → BufTy
  | .hbm, ⟨0, _⟩ => ⟨S32x2048x1024, .bf16⟩
  | .hbm, ⟨1, _⟩ => ⟨S1024x4096, .f32⟩
  | .hbm, ⟨2, _⟩ => ⟨S1024x4096, .bf16⟩
  | .hbm, ⟨3, _⟩ => ⟨S4096x1024, .bf16⟩
  | .hbm, ⟨4, _⟩ => ⟨S2x16x4096x16x128, .bf16⟩
  | .hbm, ⟨5, _⟩ => ⟨S2x16x16x128x4096, .bf16⟩
  | .hbm, ⟨6, _⟩ => ⟨S32x2048x4096, .bf16⟩
  | .local _ .vmem, ⟨0, _⟩ => ⟨S16x256x1024, .bf16⟩
  | .local _ .vmem, ⟨1, _⟩ => ⟨S16x256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2x1024x16x128, .bf16⟩
  | .local _ .vmem, ⟨5, _⟩ => ⟨S1x2x1024x16x128, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S16x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2x1024x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProjIdeal.lean ====
variable {F : FTy → Type} [FloatOps F]
-- ==== ProjReferenceIdeal.lean ====
abbrev S32x2048x1024 : Shape := ⟨3, ![32, 2048, 1024]⟩
abbrev S1024x4096 : Shape := ⟨2, ![1024, 4096]⟩
abbrev S32x2048x4096 : Shape := ⟨3, ![32, 2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x4096, .f32⟩
  | .hbm, ⟨2, _⟩ => ⟨S32x2048x1024, .f32⟩
  | .hbm, ⟨3, _⟩ => ⟨S32x2048x4096, .f32⟩
  | .hbm, ⟨4, _⟩ => ⟨S32x2048x4096, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Words.lean ====
/-
  A word that holds two bfloat16 values. The kernel takes one half out and widens it; the reference shifts the low half
  up, or clears it, and reads what is left as a float32. Both are the same number, whatever the word is: the sign and
  the exponent field are the same bits, and the fraction field is longer by sixteen zeros.
-/
module

public import Idealize.ShloMosaic.Lib.Pointwise

@[expose] public section

noncomputable section

namespace Cert.Words

open Idealize.ShloMosaic

/-- Two patterns of the two formats denote the same number if the signs and exponents are the same bits and the longer
    fraction is the shorter one followed by sixteen zeros. -/
theorem ieee_extend (x : BitVec 16) (y : BitVec 32) (hs : y.extractLsb' 31 1 = x.extractLsb' 15 1)
    (he : y.extractLsb' 23 8 = x.extractLsb' 7 8) (hf : (y.extractLsb' 0 23).toNat = (x.extractLsb' 0 7).toNat * 65536) :
    Ideal.ieee 8 7 x = Ideal.ieee 8 23 y := by
  have p : (2 : ℝ) ^ ((1 : Int) - (2 ^ (8 - 1) - 1) - (7 : Nat)) = 65536 * (2 : ℝ) ^ ((1 : Int) - (2 ^ (8 - 1) - 1) - (23 : Nat)) := by
    norm_num [zpow_neg]
  have q : ∀ n : Nat, (2 : ℝ) ^ ((n : Int) - (2 ^ (8 - 1) - 1) - (7 : Nat)) = 65536 * (2 : ℝ) ^ ((n : Int) - (2 ^ (8 - 1) - 1) - (23 : Nat)) := by
    intro n
    rw [show ((n : Int) - (2 ^ (8 - 1) - 1) - (7 : Nat)) = 16 + ((n : Int) - (2 ^ (8 - 1) - 1) - (23 : Nat)) by norm_num; ring,
      zpow_add₀ (by norm_num)]
    norm_num
  unfold Ideal.ieee
  simp only [show 8 + 7 = 15 from rfl, show 8 + 23 = 31 from rfl, hs, he, hf, p, q]
  generalize (x.extractLsb' 0 7).toNat = f
  generalize (x.extractLsb' 7 8).toNat = n
  have z : (f * 65536 = 0) = (f = 0) := by simp
  simp only [z]
  split
  · rfl
  · split
    · congr 1
      push_cast
      ring
    · congr 1
      push_cast
      ring

/-- The low half, widened, is the word shifted up by sixteen. -/
theorem low (w : BitVec 32) : Ideal.ofBits .bf16 (w.extractLsb' 0 16) = Ideal.ofBits .f32 (w <<< 16) := by
  refine ieee_extend _ _ ?_ ?_ ?_
  · exact BitVec.eq_of_toNat_eq (by simp [BitVec.extractLsb'_toNat, Nat.shiftLeft_eq, Nat.shiftRight_eq_div_pow]; omega)
  · exact BitVec.eq_of_toNat_eq (by simp [BitVec.extractLsb'_toNat, Nat.shiftLeft_eq, Nat.shiftRight_eq_div_pow]; omega)
  · simp [BitVec.extractLsb'_toNat, Nat.shiftLeft_eq, Nat.shiftRight_eq_div_pow]; omega

/-- The high half, widened, is the word with its low half cleared. -/
theorem high (w : BitVec 32) : Ideal.ofBits .bf16 (w.extractLsb' 16 16) = Ideal.ofBits .f32 (w &&& 0xFFFF0000#32) := by
  have c : w &&& 0xFFFF0000#32 = (w >>> 16) <<< 16 := by
    ext i hi
    interval_cases i <;> simp
  rw [c]
  refine ieee_extend _ _ ?_ ?_ ?_
  · exact BitVec.eq_of_toNat_eq (by simp [BitVec.extractLsb'_toNat, Nat.shiftLeft_eq, Nat.shiftRight_eq_div_pow]; omega)
  · exact BitVec.eq_of_toNat_eq (by simp [BitVec.extractLsb'_toNat, Nat.shiftLeft_eq, Nat.shiftRight_eq_div_pow]; omega)
  · simp [BitVec.extractLsb'_toNat, Nat.shiftLeft_eq, Nat.shiftRight_eq_div_pow]; omega

end Cert.Words

end
-- ==== Proof.HyoutRef.lean ====
/-
  The reference of the Hyena output projection, read at one element. Element (b, s, l) is the normed row of batch b and
  token s at feature l. The row is the residual row plus the product of the unpacked row of the long convolution with
  the output weights.
-/
module

public import proofs.«01_k».proof.Proof.Words
public import proofs.«01_k».proof.Proof.Gen.ReferenceIdeal.Read
public import Idealize.ShloMosaic.Lib.Pointwise

@[expose] public section

set_option maxRecDepth 16384

noncomputable section

namespace Cert.HyoutRef

open Idealize.ShloMosaic Cert.ReferenceIdeal Cert.ReferenceIdeal.Gen Cert.ReferenceIdeal.Read

/-- RMSNorm of a row at feature `l`, after the row `h` has been increased by the product of the row `z` with `w`. -/
def normed (z h : Fin 1024 → EReal) (w : Fin 1024 → Fin 1024 → EReal) (g : Fin 1024 → EReal) (l : Fin 1024) : EReal :=
  (h l + ∑ c, z c * w c l)
    * Ideal.rsqrt (Ideal.div (∑ d, (h d + ∑ c, z c * w c d) * (h d + ∑ c, z c * w c d)) (Ideal.ofBits .f32 1149239296#32)
        + Ideal.ofBits .f32 897988541#32)
    * g l

/-- The value at batch `b`, token `s` and channel `c` of the packed array: half of a word. Batches are packed in pairs,
    eight pairs to a row of words, and the channels follow each other every eight rows. -/
def unpacked (x : Fin 2 → Fin 16 → Fin 8192 → Fin 128 → BitVec 32) (b : Fin 32) (s : Fin 2048) (c : Fin 1024) : EReal :=
  if b.val % 2 < 1 then
    Ideal.ofBits .bf16 ((x ⟨b / 16, by omega⟩ ⟨s / 128, by omega⟩ ⟨c * 8 + b / 2 % 8, by omega⟩ ⟨s % 128, by omega⟩).extractLsb' 0 16)
  else
    Ideal.ofBits .bf16 ((x ⟨b / 16, by omega⟩ ⟨s / 128, by omega⟩ ⟨c * 8 + b / 2 % 8, by omega⟩ ⟨s % 128, by omega⟩).extractLsb' 16 16)

/-- The reference's unpacked array at an element. -/
theorem unpack_apply (x0 : (⟨S2x16x8192x128, .i32⟩ : BufTy).Contents (Elt Ideal)) (b : Fin 32) (s : Fin 2048) (c : Fin 1024) :
    val_main_v11 (F := Ideal) x0 (ix3 b s c) = unpacked (fun g t r k => x0 (ix4 g t r k)) b s c := by
  pointwise [val_main_v11, val_main_v10, val_main_v9, Cert.ReferenceIdeal.Value.fn_main_v9, val_main_v8, val_main_v7, val_main_v6,
    val_main_v5, val_main_v4, val_main_v3, val_main_v2, val_main_v1, val_main_v0, val_main_c, val_main_c_0]
  unfold unpacked
  split
  · exact (Words.low _).symm
  · exact (Words.high _).symm

/-- The reference's result at an element. -/
theorem result_apply (x0 : (⟨S2x16x8192x128, .i32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (b : Fin 32) (s : Fin 2048) (l : Fin 1024) :
    val_main_v26 (F := Ideal) x0 x1 x2 x3 (ix3 b s l)
      = normed (fun c => unpacked (fun g t r k => x0 (ix4 g t r k)) b s c) (fun d => x1 (ix3 b s d)) (fun c d => x2 (ix2 c d)) (fun d => x3 (ix1 d)) l := by
  simp only [← unpack_apply]
  pointwise [val_main_v26, val_main_v25, val_main_v24, val_main_v23, val_main_v22, val_main_v21, val_main_v20, val_main_v19, val_main_v18,
    val_main_v17, val_main_v16, val_main_v15, val_main_v14, val_main_v13, val_main_v12, val_main_cst, val_main_cst_1, val_main_cst_2]
  rfl

end Cert.HyoutRef

end
-- ==== Proof.Hyout.lean ====
/-
  The Hyena output projection's kernel computes the reference. A grid point takes eight batches and 128 tokens: it
  unpacks four strided loads of words into eight 128-token rows, multiplies them with the output weights, adds the
  residual block and norms each row.
-/
module

public import proofs.«01_k».proof.Defs
public import proofs.«01_k».proof.Proof.HyoutRef
public import proofs.«01_k».proof.Proof.Gen.KernelIdeal.Value
public import Idealize.ShloMosaic.Lib.Pointwise
public import Idealize.ShloMosaic.Lib.Pipeline.ValueKit
public import Idealize.ShloMosaic.Lib.WholeRead
public import Idealize.ShloMosaic.Lib.Quiescent

@[expose] public section

set_option maxRecDepth 16384

noncomputable section

namespace Cert.Hyout

open Idealize.ShloMosaic Idealize.SL.Sem Cert.KernelIdeal Cert.KernelIdeal.Gen Cert.HyoutRef

/-- The stored block at an element: the normed row of its batch and token. -/
theorem block_apply (z : FVec Ideal S1024x1024 .f32) (w : Vec Ideal S1024x1024 .bf16) (h : Vec Ideal S8x128x1024 .f32)
    (g : Vec Ideal S1x1024 .f32) (a : Fin 8) (k : Fin 128) (l : Fin 1024) :
    k0_pay1 (F := Ideal) z w h g (ix3 a k l)
      = normed (fun c => z (ix2 ⟨a * 128 + k, by omega⟩ c)) (fun d => h (ix3 a k d)) (fun c d => w (ix2 c d)) (fun d => g (ix2 0 d)) l := by
  pointwise [k0_pay1]
  rfl

/-- The eight unpacked rows of tokens, at an element: batch `a` of the block is one half of load `a / 2`. -/
theorem rows_apply (x : Fin 4 → Vec Ideal S1x1x1024x128 .i32) (f : Fin 4 → Fin 1024 → Fin 128 → BitVec 32)
    (hx : ∀ p j k, x p (ix4 0 0 j k) = f p j k) (a : Fin 8) (k : Fin 128) (c : Fin 1024) :
    k0_pay2 (F := Ideal) (x 0) (x 1) (x 2) (x 3) (ix2 ⟨a * 128 + k, by omega⟩ c)
      = if a.val % 2 < 1 then Ideal.ofBits .bf16 ((f ⟨a / 2, by omega⟩ c k).extractLsb' 0 16)
        else Ideal.ofBits .bf16 ((f ⟨a / 2, by omega⟩ c k).extractLsb' 16 16) := by
  pointwise [k0_pay2]
  simp only [hx]
  have hk := k.isLt
  fin_vals a with ha
  all_goals simp only [ha]
  all_goals repeat (first | rw [dif_pos (by omega)] | rw [dif_neg (by omega)])
  all_goals norm_num
  all_goals congr 3
  all_goals (apply Fin.ext; simp; try omega)

variable (m : (ℓ : Loc nD τ sig) → Buf (Elt Ideal) ℓ)

/-- Which blocks the windows take at a grid point. -/
theorem index_eq : ∀ t : Fin grid0.N, win0_0.index t = ![t.val / 32, t.val / 2 % 16, 0, 0] ∧ win0_1.index t = ![t.val / 32 * 2 + t.val % 2, t.val / 2 % 16, 0]
    ∧ win0_2.index t = ![0, 0] ∧ win0_3.index t = ![0, 0] ∧ win0_4.index t = ![t.val / 32 * 2 + t.val % 2, t.val / 2 % 16, 0] := by
  decide +kernel

/-- Where the strided loads begin. -/
theorem off_eq : ∀ (t : Fin grid0.N) (p : Fin 4), k0_off1 (grid0.coords t) (BitVec.ofNat 32 p) = ![0, 0, t.val % 2 * 4 + p, 0] := by
  decide +kernel

/-- A strided load at a grid point, at an element: a word of the packed array. -/
theorem load_apply (c : Dev nD) (t : Fin cfg0.N) (p : Fin 4) (j : Fin 1024) (k : Fin 128) :
    View.readAt (Elt Ideal) (ms0_0 t).view ⟨k0_off1 (grid0.coords t) (BitVec.ofNat 32 p), S1x1x1024x128.size, ![1, 1, 8, 1], k0_off1_inb _ p⟩
        ((hs0_0 t).unread (iblk m c 0 t)) (ix4 0 0 j k)
      = m ((c.tc : Thread nD τ).loc main_arg0)
          (ix4 ⟨t / 32, by have : t.val < 64 := t.isLt; omega⟩ ⟨t / 2 % 16, by omega⟩ ⟨j * 8 + (t % 2 * 4 + p), by omega⟩ k) := by
  rw [(hs0_0 t).readAt_unread]
  have ho := off_eq t p
  generalize k0_off1_inb _ p = hb
  revert hb
  rw [ho]
  intro hb
  have hi := (index_eq t).1
  blk_ext [iblk, V, hi]
  · show t.val % 2 * 4 + p.val + 8 * j.val = _
    omega
  · show 0 + 1 * k.val = _
    omega

/-- The reference's result at the kernel's arguments. -/
def result (c : Dev nD) : Buf (Elt Ideal) ((c.tc : Thread nD τ).loc main_v2) :=
  Cert.ReferenceIdeal.Read.val_main_v26 (F := Ideal) (m ((c.tc : Thread nD τ).loc main_arg0)) (m ((c.tc : Thread nD τ).loc main_arg1))
    (m ((c.tc : Thread nD τ).loc main_arg2)) (m ((c.tc : Thread nD τ).loc main_arg3))

/-- The result array after the run is the reference's result. -/
theorem final (c : Dev nD) : (dats m 0 c).arrAt 4 cfg0.N = result m c := by
  refine (dats m 0 c).arrAt_eq_of_covers 4 _ (by decide +kernel) fun t hf y => ?_
  blk_simp
  rw [after0_4]
  unfold outsAt0
  frame_out
  obtain ⟨a, k, l, rfl⟩ : ∃ (a : Fin 8) (k : Fin 128) (l : Fin 1024), y = ix3 a k l := ⟨y 0, y 1, y 2, eq_ix3 y⟩
  refine (block_apply _ _ _ _ _ _ _).trans ?_
  have ht : t.val < 64 := t.isLt
  have hz := rows_apply (fun p : Fin 4 => View.readAt (Elt Ideal) (ms0_0 t).view ⟨k0_off1 (grid0.coords t) (BitVec.ofNat 32 p), S1x1x1024x128.size, ![1, 1, 8, 1], k0_off1_inb _ p⟩
        ((hs0_0 t).unread (iblk m c 0 t))) _ (load_apply m c t) a k
  refine (congrArg (fun z => normed z _ _ _ l) (funext hz)).trans ?_
  have he : ((View.whole main_v2).slice (win0_4.rect t)).emb (ix3 a k l)
      = ix3 (⟨(t / 32 * 2 + t % 2) * 8 + a, by omega⟩ : Fin 32) (⟨t / 2 % 16 * 128 + k, by omega⟩ : Fin 2048) l := by
    have hi := (index_eq t).2.2.2.2
    blk_ext [hi]
  rw [he]
  refine Eq.trans ?_ (result_apply _ _ _ _ _ _ _).symm
  have e0 : ∀ c' : Fin 1024, (if a.val % 2 < 1 then Ideal.ofBits .bf16 ((m ((c.tc : Thread nD τ).loc main_arg0)
          (ix4 ⟨t / 32, by omega⟩ ⟨t / 2 % 16, by omega⟩ ⟨c' * 8 + (t % 2 * 4 + a / 2), by omega⟩ k)).extractLsb' 0 16)
        else Ideal.ofBits .bf16 ((m ((c.tc : Thread nD τ).loc main_arg0)
          (ix4 ⟨t / 32, by omega⟩ ⟨t / 2 % 16, by omega⟩ ⟨c' * 8 + (t % 2 * 4 + a / 2), by omega⟩ k)).extractLsb' 16 16))
      = unpacked (fun g t r k => m ((c.tc : Thread nD τ).loc main_arg0) (ix4 g t r k)) ⟨(t / 32 * 2 + t % 2) * 8 + a, by omega⟩
          ⟨t / 2 % 16 * 128 + k, by omega⟩ c' := by
    intro c'
    unfold unpacked
    have h1 : ((t.val / 32 * 2 + t.val % 2) * 8 + a.val) % 2 = a.val % 2 := by omega
    have h2 : ((t.val / 32 * 2 + t.val % 2) * 8 + a.val) / 16 = t.val / 32 := by omega
    have h3 : ((t.val / 32 * 2 + t.val % 2) * 8 + a.val) / 2 % 8 = t.val % 2 * 4 + a.val / 2 := by omega
    have h4 : (t.val / 2 % 16 * 128 + k.val) / 128 = t.val / 2 % 16 := by omega
    have h5 : (t.val / 2 % 16 * 128 + k.val) % 128 = k.val := by omega
    simp only [h1, h2, h3, h4, h5]
  have e1 : ∀ d : Fin 1024, iblk m c 1 t (ix3 a k d) = m ((c.tc : Thread nD τ).loc main_arg1)
      (ix3 (⟨(t / 32 * 2 + t % 2) * 8 + a, by omega⟩ : Fin 32) (⟨t / 2 % 16 * 128 + k, by omega⟩ : Fin 2048) d) := by
    intro d
    have hi := (index_eq t).2.1
    blk_ext [iblk, V, hi]
  have e2 : ∀ c' d : Fin 1024, iblk m c 2 t (ix2 c' d) = m ((c.tc : Thread nD τ).loc main_arg2) (ix2 c' d) := by
    intro c' d
    have hi := (index_eq t).2.2.1
    blk_ext! [iblk, V, hi]
  have e3 : ∀ d : Fin 1024, iblk m c 3 t (ix2 0 d) = m ((c.tc : Thread nD τ).loc main_arg3) (ix1 d) := by
    intro d
    have hi := (index_eq t).2.2.2.1
    blk_ext! [iblk, V, hi]
  simp only [e1, e2, e3]
  exact congrArg (fun z => normed z _ _ _ l) (funext e0)

/-- The reference's frame: it holds no counter. -/
theorem reference_frame : Cert.quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

/-- The kernel and the reference end with the same array. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => result m c,
    (θ_run _ _ _).mono (fun _ h c => ⟨(h c).1.trans (final m c), (h c).2⟩) (Cert.KernelIdeal.Value.run_blocks m g),
    (θ_run _ _ _).mono (fun _ h c => ⟨by
      refine (h c).1.trans ((Cert.ReferenceIdeal.Read.val_main_v26_eq m' c).trans ?_)
      obtain ⟨h0, h1, h2, h3⟩ := hagree c
      rw [h0, h1, h2, h3]
      rfl, (h c).2⟩) (Cert.ReferenceIdeal.Value.run m' g')⟩

end Cert.Hyout

end
-- ==== Proof.Softmax.lean ====
/-
  Softmax over real scores, taken two ways. One way exponentiates in base two, sums the weighted values and divides the
  sum; the other multiplies the scores by the logarithm of two, exponentiates in base e, and divides each weight first.
  Any real may be subtracted from the scores in either. The values may be infinite.
-/
module

public import Idealize.ShloMosaic.Lib.Pointwise
public import Idealize.ShloMosaic.Lib.IdealHost

@[expose] public section

noncomputable section

namespace Cert.Softmax

open Idealize.ShloMosaic

/-- A sum of reals is real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A positive real factor may be taken into a sum, whatever the terms are. -/
theorem sum_mul {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s h ih =>
    rw [Finset.sum_insert h, Finset.sum_insert h, ← ih]
    exact EReal.right_distrib_of_nonneg_of_ne_top (by exact_mod_cast hr) (EReal.coe_ne_top r) _ _

/-- The maximum of finitely many reals is real. -/
theorem fold_max_real {ι : Type} [Fintype ι] (k0 : ι) (f : ι → EReal) (hf : ∀ k, ∃ r : ℝ, f k = (r : EReal)) :
    ∃ r : ℝ, Finset.fold max (⊥ : EReal) f Finset.univ = (r : EReal) := by
  obtain ⟨r0, h0⟩ := hf k0
  have hlt : Finset.fold max (⊥ : EReal) f Finset.univ < ⊤ :=
    (Finset.fold_max_lt _).2 ⟨bot_lt_top, fun k _ => by obtain ⟨r, hr⟩ := hf k; rw [hr]; exact EReal.coe_lt_top r⟩
  have hgt : ⊥ < Finset.fold max (⊥ : EReal) f Finset.univ :=
    (Finset.lt_fold_max _).2 (.inr ⟨k0, Finset.mem_univ _, by rw [h0]; exact EReal.bot_lt_coe r0⟩)
  exact ⟨_, (EReal.coe_toReal hlt.ne hgt.ne').symm⟩

/-- The two ways give the same number. -/
theorem eq {n : Nat} (k0 : Fin n) (s : Fin n → ℝ) (a b : ℝ) (v : Fin n → EReal) :
    Ideal.div (∑ k, Ideal.exp2 ((s k : EReal) - (a : EReal)) * v k) (∑ k, Ideal.exp2 ((s k : EReal) - (a : EReal)) * 1)
      = ∑ k, v k * Ideal.div (Ideal.exp ((s k : EReal) * ((Real.log 2 : ℝ) : EReal) - (b : EReal)))
          (∑ j, Ideal.exp ((s j : EReal) * ((Real.log 2 : ℝ) : EReal) - (b : EReal))) := by
  have e2 : ∀ k, Ideal.exp2 ((s k : EReal) - (a : EReal)) = (((2 : ℝ) ^ (s k - a) : ℝ) : EReal) := fun k => by
    rw [← EReal.coe_sub, Ideal.exp2_coe]; rfl
  have e1 : ∀ k, Ideal.exp ((s k : EReal) * ((Real.log 2 : ℝ) : EReal) - (b : EReal)) = ((Real.exp (s k * Real.log 2 - b) : ℝ) : EReal) := fun k => by
    rw [← EReal.coe_mul, ← EReal.coe_sub, Ideal.exp_coe]
  simp only [e2, e1, mul_one, coe_sum]
  have hr : ∀ k, Real.exp (s k * Real.log 2 - b) = (2 : ℝ) ^ (s k - a) * Real.exp (a * Real.log 2 - b) := fun k => by
    rw [Real.rpow_def_of_pos (by norm_num), ← Real.exp_add]
    congr 1
    ring
  have hz : 0 < ∑ k, (2 : ℝ) ^ (s k - a) := Finset.sum_pos (fun k _ => by positivity) ⟨k0, Finset.mem_univ _⟩
  have hc : 0 < Real.exp (a * Real.log 2 - b) := Real.exp_pos _
  have hz' : ∑ k, Real.exp (s k * Real.log 2 - b) ≠ 0 := by
    simp only [hr, ← Finset.sum_mul]
    exact (mul_pos hz hc).ne'
  rw [Ideal.div_coe hz.ne', sum_mul _ _ _ (by positivity)]
  refine Finset.sum_congr rfl fun k _ => ?_
  rw [Ideal.div_coe hz', mul_comm _ (v k), mul_assoc, ← EReal.coe_mul, ← EReal.coe_mul]
  congr 2
  simp only [hr, ← Finset.sum_mul]
  field_simp

/-- The pattern of minus infinity. -/
theorem neg_inf : Ideal.ofBits .f32 0xFF800000#32 = ⊥ := by simp [Ideal.ofBits, Ideal.ieee]

/-- The logarithm of the pattern of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- A value whose magnitude compares less than the bfloat16 infinity is real. -/
theorem real_of_lt (x : EReal) (h : max x (-x) < Ideal.ofBits .bf16 0x7F80#16) : ∃ r : ℝ, x = (r : EReal) := by
  induction x with
  | bot => simp at h
  | top => simp at h
  | coe r => exact ⟨r, rfl⟩

end Cert.Softmax

end
-- ==== Proof.AttnRef.lean ====
/-
  The reference of the latent attention, read at one element: the scores, the row maxima (of which only that they
  are real is needed), the exponentials, their sums, the weights, and the weighted values times the gate.
-/
module

public import proofs.«01_k».proof.Proof.Softmax
public import proofs.«01_k».proof.Proof.Gen.AttnReferenceIdeal.Read
public import Idealize.ShloMosaic.Lib.Pointwise

@[expose] public section

set_option maxRecDepth 16384

noncomputable section

namespace Cert.AttnRef

open Idealize.ShloMosaic Cert.AttnReferenceIdeal Cert.AttnReferenceIdeal.Gen Cert.AttnReferenceIdeal.Read

/-- The score of a query and a key: the part with its own key features, and the part with the features that all heads
    share. -/
def score (q : Fin 2 → Fin 128 → EReal) (kn kp : Fin 128 → EReal) : EReal := ∑ d, q 0 d * kn d + ∑ d, q 1 d * kp d

/-- The query features of head `h`, in two halves. -/
def query (x : Fin 2048 → EReal) (h : Fin 8) (p : Fin 2) (d : Fin 128) : EReal := x ⟨h * 256 + (p * 128 + d), by omega⟩

/-- The key features of head `h` that are its own. -/
def key (x : Fin 1024 → EReal) (h : Fin 8) (d : Fin 128) : EReal := x ⟨h * 128 + d, by omega⟩

variable (x0 : (⟨S32x2048x2048, .bf16⟩ : BufTy).Contents (Elt Ideal)) (x1 : (⟨S32x2048x1024, .bf16⟩ : BufTy).Contents (Elt Ideal))
    (x2 : (⟨S32x2048x128, .bf16⟩ : BufTy).Contents (Elt Ideal)) (x3 x4 : (⟨S32x2048x1024, .bf16⟩ : BufTy).Contents (Elt Ideal))

/-- The scores times the logarithm of two. -/
theorem score_apply (b : Fin 32) (h : Fin 8) (s k : Fin 2048) :
    val_main_v17 (F := Ideal) x0 x1 x2 (ix4 b h s k)
      = score (query (fun j => x0 (ix3 b s j)) h) (key (fun j => x1 (ix3 b k j)) h) (fun d => x2 (ix3 b k d)) * ((Real.log 2 : ℝ) : EReal) := by
  rw [← Softmax.log_two]
  pointwise [val_main_v17, val_main_v16, val_main_v15, val_main_v14, val_main_v13, val_main_v12, val_main_v11, val_main_v10, val_main_v9,
    val_main_v8, val_main_v7, val_main_v6, val_main_v5, val_main_v2, val_main_v1, val_main_v0, val_main_cst]
  refine congrArg (· * _) ?_
  unfold score query key
  refine congrArg₂ (· + ·) (Finset.sum_congr rfl fun d _ => ?_) (Finset.sum_congr rfl fun d _ => (mul_comm _ _).trans ?_)
  · refine congrArg (· * _) (congrArg x0 (congrArg (ix3 b s) (Fin.ext ?_)))
    simp
  · refine congrArg (· * _) (congrArg x0 (congrArg (ix3 b s) (Fin.ext ?_)))
    simp

/-- If all scores are real, so are the row maxima. -/
theorem max_real (h17 : ∀ i, ∃ r : ℝ, val_main_v17 (F := Ideal) x0 x1 x2 i = (r : EReal)) (j) :
    ∃ r : ℝ, val_main_v20 (F := Ideal) x0 x1 x2 j = (r : EReal) := by
  rw [val_main_v20_apply, val_main_v19_apply, val_main_cst_1_apply]
  unfold val_main_v18
  generalize val_main_v17 (F := Ideal) x0 x1 x2 = y at h17 ⊢
  have hr : S32x8x2048x2048.Reduces [3] S32x8x2048 := by decide
  have e := Host.reduce_eq_fold_single (FloatOps.maximumf (F := Ideal) (φ := .f32)) y (val_main_cst_0 (F := Ideal))
    reducesTo_S32x8x2048x2048_S32x8x2048_d3 hr h_S_ j
  rw [e, val_main_cst_0_apply]
  have z : FloatOps.ofBits (F := Ideal) .f32 0xFF800000#32 = (⊥ : EReal) := Softmax.neg_inf
  rw [z]
  obtain ⟨r, h⟩ := Softmax.fold_max_real (ι := Fin 2048) 0 (y ∘ hr.lift j) (fun k => h17 _)
  exact ⟨r, (max_eq_right bot_le).trans h⟩

/-- The exponentials. -/
theorem exp_apply (b : Fin 32) (h : Fin 8) (s k : Fin 2048) :
    val_main_v24 (F := Ideal) x0 x1 x2 (ix4 b h s k)
      = Ideal.exp (val_main_v17 (F := Ideal) x0 x1 x2 (ix4 b h s k) - val_main_v20 (F := Ideal) x0 x1 x2 (ix3 b h s)) := by
  pointwise [val_main_v24, val_main_v23, val_main_v22, val_main_v21]

/-- The sums of a row's exponentials. -/
theorem den_apply (b : Fin 32) (h : Fin 8) (s : Fin 2048) :
    val_main_v25 (F := Ideal) x0 x1 x2 (ix3 b h s) = ∑ k, val_main_v24 (F := Ideal) x0 x1 x2 (ix4 b h s k) := by
  pointwise [val_main_v25, val_main_cst_2]

/-- The weights. -/
theorem weight_apply (b : Fin 32) (h : Fin 8) (s k : Fin 2048) :
    val_main_v28 (F := Ideal) x0 x1 x2 (ix4 b h s k)
      = Ideal.div (val_main_v24 (F := Ideal) x0 x1 x2 (ix4 b h s k)) (val_main_v25 (F := Ideal) x0 x1 x2 (ix3 b h s)) := by
  pointwise [val_main_v28, val_main_v27, val_main_v26]

/-- The reference's result. -/
theorem result_apply (b : Fin 32) (s : Fin 2048) (n : Fin 1024) :
    val_main_v33 (F := Ideal) x0 x1 x2 x3 x4 (ix3 b s n)
     = (∑ k, x3 (ix3 b k n) * val_main_v28 (F := Ideal) x0 x1 x2 (ix4 b (⟨n / 128, by omega⟩ : Fin 8) s k)) * x4 (ix3 b s n) := by
  pointwise [val_main_v33, val_main_v32, val_main_v31, val_main_v30, val_main_v29, val_main_v7, val_main_v4, val_main_v3]

end Cert.AttnRef

end
-- ==== Proof.AttnTile.lean ====
/-
  The attention kernel's row tiles. A grid point takes two heads of one batch. For each it lays
  the head's own key features and the shared ones next to each other, and the values next to ones; eight row tiles then
  take scores, exponentials, and one product whose left half is the weighted values and whose right half is the sum of the
  weights.
-/
module

public import proofs.«01_k».proof.Proof.AttnRef
public import proofs.«01_k».proof.Proof.Gen.AttnIdeal.Value
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Attention

open Idealize.ShloMosaic Idealize.SL.Sem Cert.AttnIdeal Cert.AttnIdeal.Gen

/-- One row of attention at one value feature: scores `s`, values `v`, gate `g`. -/
def attend (s v : Fin 2048 → EReal) (g : EReal) : EReal :=
  Ideal.div (∑ k, Ideal.exp2 (s k - Finset.fold max ⊥ s Finset.univ) * v k) (∑ k, Ideal.exp2 (s k - Finset.fold max ⊥ s Finset.univ) * 1) * g

/-- One row tile of one head at an element. -/
theorem tile_apply (q : Vec Ideal S1x256x256 .bf16) (k v : Vec Ideal S1x2048x256 .bf16) (g : Vec Ideal S1x256x128 .bf16) (a : Fin 256) (d : Fin 128)
    (h1 : ∀ x : Fin 2048, v (ix3 0 x ⟨128 + d, by omega⟩) = 1) :
    k0_pay12 (F := Ideal) q k v g (ix3 0 a d)
      = attend (fun x => ∑ j : Fin 256, q (ix3 0 a j) * k (ix3 0 x j)) (fun x => v (ix3 0 x ⟨d, by omega⟩)) (g (ix3 0 a d)) := by
  pointwise [k0_pay12]
  simp only [h1, Softmax.neg_inf]
  rfl

/-- Two arrays side by side: what a head's part of a scratch holds once both halves are stored. -/
def beside (w1 w2 : Vec Ideal S1x2048x128 .bf16) (k : Fin 2048) (j : Fin 256) : EReal :=
  if h : j.val < 128 then w1 (ix3 0 k ⟨j.val, h⟩) else w2 (ix3 0 k ⟨j.val - 128, by omega⟩)

/-- The left half. -/
theorem beside_left (w1 w2 : Vec Ideal S1x2048x128 .bf16) (k k' : Fin 2048) (j : Fin 256) (d : Fin 128) (hk : k.val = k'.val) (hj : j.val = d.val) :
    beside w1 w2 k j = w1 (ix3 0 k' d) := by
  obtain rfl : k = k' := Fin.ext hk
  unfold beside
  rw [dif_pos (by omega)]
  exact congrArg (fun d => w1 (ix3 0 k d)) (Fin.ext hj)

/-- The right half. -/
theorem beside_right (w1 w2 : Vec Ideal S1x2048x128 .bf16) (k k' : Fin 2048) (j : Fin 256) (d : Fin 128) (hk : k.val = k'.val) (hj : j.val = 128 + d.val) :
    beside w1 w2 k j = w2 (ix3 0 k' d) := by
  obtain rfl : k = k' := Fin.ext hk
  unfold beside
  rw [dif_neg (by omega)]
  exact congrArg (fun d => w2 (ix3 0 k d)) (Fin.ext (by show j.val - 128 = d.val; omega))

/-- A head's part of a scratch, read back, whatever was stored before. -/
theorem cat_apply {κ : Kind} {sp : Space} (v : View sig κ sp S2x2048x256 .bf16) (n : Nat) (b1 : ∀ a, (![n, 0, 0] : Fin 3 → Nat) a + (![1, 2048, 128] : Fin 3 → Nat) a ≤ S2x2048x256.size a)
    (b2 : ∀ a, (![n, 0, 128] : Fin 3 → Nat) a + (![1, 2048, 128] : Fin 3 → Nat) a ≤ S2x2048x256.size a)
    (b3 : ∀ a, (![n, 0, 0] : Fin 3 → Nat) a + (![1, 2048, 256] : Fin 3 → Nat) a ≤ S2x2048x256.size a)
    (w1 w2 : Vec Ideal S1x2048x128 .bf16) (L : List (View.Piece (Elt Ideal) S2x2048x256 .bf16)) (k : Fin 2048) (j : Fin 256) :
    v.readCov (Val := Elt Ideal) (⟨Rect.unit (s := S2x2048x256) ![n, 0, 128] ![1, 2048, 128] b2, w2⟩ :: ⟨Rect.unit (s := S2x2048x256) ![n, 0, 0] ![1, 2048, 128] b1, w1⟩ :: L)
      (Rect.unit (s := S2x2048x256) ![n, 0, 0] ![1, 2048, 256] b3).toLoadRect (ix3 (n0 := 1) 0 k j) = beside w1 w2 k j := by
  rw [View.readCov_eq_canon']
  let G : S2x2048x256.Idx → Elt Ideal .bf16 := fun y => beside w1 w2 (y 1) (y 2)
  have hp : View.PiecesOf (Val := Elt Ideal) (s := S2x2048x256) (e := .bf16) G
      [⟨Rect.unit (s := S2x2048x256) ![n, 0, 128] ![1, 2048, 128] b2, w2⟩, ⟨Rect.unit (s := S2x2048x256) ![n, 0, 0] ![1, 2048, 128] b1, w1⟩] := by
    refine ⟨fun x => ?_, fun x => ?_, trivial⟩ <;>
      obtain ⟨a, r, d, rfl⟩ : ∃ (a : Fin 1) (r : Fin 2048) (d : Fin 128), x = ix3 a r d := ⟨x 0, x 1, x 2, eq_ix3 x⟩ <;>
      obtain rfl : a = 0 := Subsingleton.elim _ _
    · refine (beside_right w1 w2 _ r _ d ?_ ?_).symm <;> rw [ValueKit.rect_emb_unit_val] <;> simp
    · refine (beside_left w1 w2 _ r _ d ?_ ?_).symm <;> rw [ValueKit.rect_emb_unit_val] <;> simp
  refine (View.canon_append_of_piecesOf G L [_, _] hp _ ?_).trans ?_
  · by_cases h : j.val < 128
    · refine ⟨_, List.mem_cons_of_mem _ (List.mem_singleton_self _), (Rect.mem_set_unit (inb := b1)).2 fun a => ?_⟩
      rw [Rect.idx_unit_val]
      fin_cases a <;> simp <;> omega
    · refine ⟨_, List.mem_cons_self, (Rect.mem_set_unit (inb := b2)).2 fun a => ?_⟩
      rw [Rect.idx_unit_val]
      fin_cases a <;> simp <;> omega
  · refine congrArg₂ (beside w1 w2) (Fin.ext ?_) (Fin.ext ?_) <;> rw [Rect.idx_unit_val] <;> simp

/-- A stored part of the first head's keys. -/
theorem pay2_apply (x : Vec Ideal S1x2048x128 .bf16) (k : Fin 2048) (d : Fin 128) : k0_pay2 (F := Ideal) x (ix3 0 k d) = x (ix3 0 k d) := by
  pointwise [k0_pay2]

theorem pay3_apply (x : Vec Ideal S1x2048x128 .bf16) (k : Fin 2048) (d : Fin 128) : k0_pay3 (F := Ideal) x (ix3 0 k d) = x (ix3 0 k d) := by
  pointwise [k0_pay3]

theorem pay4_apply (x : Vec Ideal S1x2048x128 .bf16) (k : Fin 2048) (d : Fin 128) : k0_pay4 (F := Ideal) x (ix3 0 k d) = x (ix3 0 k d) := by
  pointwise [k0_pay4]

theorem pay5_apply (k : Fin 2048) (d : Fin 128) : k0_pay5 (F := Ideal) (ix3 0 k d) = 1 := by
  pointwise [k0_pay5]

theorem pay6_apply (x : Vec Ideal S1x2048x128 .bf16) (k : Fin 2048) (d : Fin 128) : k0_pay6 (F := Ideal) x (ix3 0 k d) = x (ix3 0 k d) := by
  pointwise [k0_pay6]

theorem pay7_apply (x : Vec Ideal S1x2048x128 .bf16) (k : Fin 2048) (d : Fin 128) : k0_pay7 (F := Ideal) x (ix3 0 k d) = x (ix3 0 k d) := by
  pointwise [k0_pay7]

theorem pay8_apply (x : Vec Ideal S1x2048x128 .bf16) (k : Fin 2048) (d : Fin 128) : k0_pay8 (F := Ideal) x (ix3 0 k d) = x (ix3 0 k d) := by
  pointwise [k0_pay8]

theorem pay9_apply (k : Fin 2048) (d : Fin 128) : k0_pay9 (F := Ideal) (ix3 0 k d) = 1 := by
  pointwise [k0_pay9]

/-- What a grid point leaves for its head `n`, at token `r` and value feature `d`, over the blocks it takes. -/
def block (x0 : Vec Ideal S1x2048x512 .bf16) (x1 : Vec Ideal S1x2048x256 .bf16) (x2 : Vec Ideal S1x2048x128 .bf16) (x3 x4 : Vec Ideal S1x2048x256 .bf16)
    (n : Fin 2) (r : Fin 2048) (d : Fin 128) : EReal :=
  attend
    (fun k => AttnRef.score (fun p j => x0 (ix3 0 r (⟨n * 256 + (p * 128 + j), by omega⟩ : Fin 512))) (fun j => x1 (ix3 0 k (⟨n * 128 + j, by omega⟩ : Fin 256)))
      (fun j => x2 (ix3 0 k j)))
    (fun k => x3 (ix3 0 k (⟨n * 128 + d, by omega⟩ : Fin 256))) (x4 (ix3 0 r (⟨n * 128 + d, by omega⟩ : Fin 256)))

/-- A row tile, from what its operands are. -/
theorem tile_block (x0 : Vec Ideal S1x2048x512 .bf16) (x1 : Vec Ideal S1x2048x256 .bf16) (x2 : Vec Ideal S1x2048x128 .bf16) (x3 x4 : Vec Ideal S1x2048x256 .bf16)
    (n : Fin 2) (o : Nat) (ho : o + 256 ≤ 2048) (q : Vec Ideal S1x256x256 .bf16) (k v : Vec Ideal S1x2048x256 .bf16) (g : Vec Ideal S1x256x128 .bf16)
    (w1 w2 w3 w4 : Vec Ideal S1x2048x128 .bf16)
    (hq : ∀ (a j : Fin 256), q (ix3 0 a j) = x0 (ix3 0 (⟨o + a, by omega⟩ : Fin 2048) (⟨n * 256 + j, by omega⟩ : Fin 512)))
    (hk : ∀ r j, k (ix3 0 r j) = beside w1 w2 r j) (hv : ∀ r j, v (ix3 0 r j) = beside w3 w4 r j)
    (h1 : ∀ r (d : Fin 128), w1 (ix3 0 r d) = x1 (ix3 0 r (⟨n * 128 + d, by omega⟩ : Fin 256))) (h2 : ∀ r d, w2 (ix3 0 r d) = x2 (ix3 0 r d))
    (h3 : ∀ r (d : Fin 128), w3 (ix3 0 r d) = x3 (ix3 0 r (⟨n * 128 + d, by omega⟩ : Fin 256))) (h4 : ∀ r d, w4 (ix3 0 r d) = 1)
    (hg : ∀ (a : Fin 256) (d : Fin 128), g (ix3 0 a d) = x4 (ix3 0 (⟨o + a, by omega⟩ : Fin 2048) (⟨n * 128 + d, by omega⟩ : Fin 256)))
    (a : Fin 256) (d : Fin 128) :
    k0_pay12 (F := Ideal) q k v g (ix3 0 a d) = block x0 x1 x2 x3 x4 n ⟨o + a, by omega⟩ d := by
  rw [tile_apply q k v g a d fun x => by rw [hv, beside_right w3 w4 x x _ d rfl rfl, h4], hg]
  unfold block
  have hs : (fun x : Fin 2048 => ∑ j : Fin 256, q (ix3 0 a j) * k (ix3 0 x j))
      = fun x => AttnRef.score (fun p j => x0 (ix3 0 (⟨o + a, by omega⟩ : Fin 2048) (⟨n * 256 + (p * 128 + j), by omega⟩ : Fin 512)))
          (fun j => x1 (ix3 0 x (⟨n * 128 + j, by omega⟩ : Fin 256))) (fun j => x2 (ix3 0 x j)) := by
    funext x
    unfold AttnRef.score
    refine (Fin.sum_univ_add (a := 128) (b := 128) fun j : Fin 256 => q (ix3 0 a j) * k (ix3 0 x j)).trans ?_
    refine congrArg₂ (· + ·) (Finset.sum_congr rfl fun j _ => ?_) (Finset.sum_congr rfl fun j _ => ?_)
    · rw [hq, hk, beside_left w1 w2 x x _ j rfl rfl, h1]
      refine congrArg (· * _) (congrArg x0 (congrArg (ix3 0 _) (Fin.ext ?_)))
      simp
    · rw [hq, hk, beside_right w1 w2 x x _ j rfl rfl, h2]
      refine congrArg (· * _) (congrArg x0 (congrArg (ix3 0 _) (Fin.ext ?_)))
      simp
      omega
  have hv' : (fun x : Fin 2048 => v (ix3 0 x (⟨d, by omega⟩ : Fin 256))) = fun x => x3 (ix3 0 x (⟨n * 128 + d, by omega⟩ : Fin 256)) := by
    funext x
    rw [hv, beside_left w3 w4 x x _ d rfl rfl, h3]
  rw [hs, hv']

end Cert.Attention

end
-- ==== Proof.Attn.lean ====
/-
  The attention kernel computes the reference's attention.
-/
module

public import proofs.«01_k».proof.Defs
public import proofs.«01_k».proof.Proof.AttnTile
public import Idealize.ShloMosaic.Lib.Quiescent

@[expose] public section

set_option maxRecDepth 16384

noncomputable section

namespace Cert.Attention

open Idealize.ShloMosaic Idealize.SL.Sem Cert.AttnIdeal Cert.AttnIdeal.Gen

/-- What a grid point leaves, over the blocks it takes. -/
def whole (x0 : Vec Ideal S1x2048x512 .bf16) (x1 : Vec Ideal S1x2048x256 .bf16) (x2 : Vec Ideal S1x2048x128 .bf16) (x3 x4 : Vec Ideal S1x2048x256 .bf16)
    (y : S1x2048x256.Idx) : Elt Ideal .bf16 :=
  block x0 x1 x2 x3 x4 ⟨(y 2).val / 128, by have : (y 2).val < 256 := (y 2).isLt; omega⟩ (y 1) ⟨(y 2).val % 128, Nat.mod_lt _ (by decide)⟩

/-- It is read by head and feature. -/
theorem whole_eq (x0 : Vec Ideal S1x2048x512 .bf16) (x1 : Vec Ideal S1x2048x256 .bf16) (x2 : Vec Ideal S1x2048x128 .bf16) (x3 x4 : Vec Ideal S1x2048x256 .bf16)
    (n : Fin 2) (r : Fin 2048) (d : Fin 128) (y : S1x2048x256.Idx) (h1 : (y 1).val = r.val) (h2 : (y 2).val = n.val * 128 + d.val) :
    whole x0 x1 x2 x3 x4 y = block x0 x1 x2 x3 x4 n r d := by
  have e1 : (⟨(y 2).val / 128, by have : (y 2).val < 256 := (y 2).isLt; omega⟩ : Fin 2) = n := Fin.ext (by show (y 2).val / 128 = n.val; omega)
  have e2 : y 1 = r := Fin.ext h1
  have e3 : (⟨(y 2).val % 128, Nat.mod_lt _ (by decide)⟩ : Fin 128) = d := Fin.ext (by show (y 2).val % 128 = d.val; omega)
  unfold whole
  rw [e1, e3]
  exact congrArg (fun r => block x0 x1 x2 x3 x4 n r d) e2

/-- A load of a box, read at an element. -/
theorem ld_read {A B C a b c : Nat} (x : Vec Ideal ⟨3, ![A, B, C]⟩ .bf16) (o p q : Nat) (h) (i : Fin a) (j : Fin b) (k : Fin c) (i' : Fin A) (j' : Fin B) (k' : Fin C)
    (hi : i'.val = o + i.val) (hj : j'.val = p + j.val) (hk : k'.val = q + k.val) :
    View.ld (S := ⟨3, ![A, B, C]⟩) x (Rect.unit ![o, p, q] ![a, b, c] h) (ix3 i j k) = x (ix3 i' j' k') := by
  show x ((Rect.unit (s := ⟨3, ![A, B, C]⟩) ![o, p, q] ![a, b, c] h).idx (ix3 i j k)) = _
  refine congrArg x (funext fun d => Fin.ext ?_)
  rw [Rect.idx_unit_val]
  fin_cases d
  · exact hi.symm
  · exact hj.symm
  · exact hk.symm

/-- A row tile of head 0 is its part of the block. -/
theorem piece0 (x0 : Vec Ideal S1x2048x512 .bf16) (x1 : Vec Ideal S1x2048x256 .bf16) (x2 : Vec Ideal S1x2048x128 .bf16) (x3 x4 : Vec Ideal S1x2048x256 .bf16)
    (o : Nat) (ho : o + 256 ≤ 2048) (hq) (h1) (h2) (h3) (h4) (h5) (hg) (hx) (L M : List (View.Piece (Elt Ideal) S2x2048x256 .bf16)) (x) :
    k0_pay12 (F := Ideal) (View.ld (S := S1x2048x512) x0 (Rect.unit ![0, o, 0] ![1, 256, 256] hq))
      ((View.whole cc0_scratch0).readCov (Val := Elt Ideal)
        (⟨Rect.unit (s := S2x2048x256) ![0, 0, 128] ![1, 2048, 128] h2, k0_pay3 (F := Ideal) x2⟩ ::
          ⟨Rect.unit (s := S2x2048x256) ![0, 0, 0] ![1, 2048, 128] h1, k0_pay2 (F := Ideal) (View.ld (S := S1x2048x256) x1 (Rect.unit ![0, 0, 0] ![1, 2048, 128] h4))⟩ :: L)
        (Rect.unit (s := S2x2048x256) ![0, 0, 0] ![1, 2048, 256] h3).toLoadRect)
      ((View.whole cc0_scratch1).readCov (Val := Elt Ideal)
        (⟨Rect.unit (s := S2x2048x256) ![0, 0, 128] ![1, 2048, 128] h2, k0_pay5 (F := Ideal)⟩ ::
          ⟨Rect.unit (s := S2x2048x256) ![0, 0, 0] ![1, 2048, 128] h1, k0_pay4 (F := Ideal) (View.ld (S := S1x2048x256) x3 (Rect.unit ![0, 0, 0] ![1, 2048, 128] h5))⟩ :: M)
        (Rect.unit (s := S2x2048x256) ![0, 0, 0] ![1, 2048, 256] h3).toLoadRect)
      (View.ld (S := S1x2048x256) x4 (Rect.unit ![0, o, 0] ![1, 256, 128] hg)) x
    = whole x0 x1 x2 x3 x4 ((Rect.unit (s := S1x2048x256) ![0, o, 0] ![1, 256, 128] hx).emb x) := by
  obtain ⟨z, a, d, rfl⟩ : ∃ (z : Fin 1) (a : Fin 256) (d : Fin 128), x = ix3 z a d := ⟨x 0, x 1, x 2, eq_ix3 x⟩
  obtain rfl : z = 0 := Subsingleton.elim _ _
  refine (tile_block x0 x1 x2 x3 x4 0 o ho _ _ _ _ _ _ _ _ (fun a j => ?_) (fun r j => cat_apply _ 0 _ _ _ _ _ _ r j) (fun r j => cat_apply _ 0 _ _ _ _ _ _ r j)
    (fun r d => (pay2_apply _ r d).trans ?_) (fun r d => pay3_apply _ r d) (fun r d => (pay4_apply _ r d).trans ?_) (fun r d => pay5_apply r d) (fun a d => ?_) a d).trans
    (whole_eq x0 x1 x2 x3 x4 0 _ d _ ?_ ?_).symm
  · exact ld_read x0 _ _ _ _ _ _ _ _ _ _ rfl rfl (by simp)
  · exact ld_read x1 _ _ _ _ _ _ _ _ _ _ rfl (by simp) (by simp)
  · exact ld_read x3 _ _ _ _ _ _ _ _ _ _ rfl (by simp) (by simp)
  · exact ld_read x4 _ _ _ _ _ _ _ _ _ _ rfl rfl (by simp)
  · rw [ValueKit.rect_emb_unit_val]; simp
  · rw [ValueKit.rect_emb_unit_val]; simp

/-- A row tile of head 1 is its part of the block. -/
theorem piece1 (x0 : Vec Ideal S1x2048x512 .bf16) (x1 : Vec Ideal S1x2048x256 .bf16) (x2 : Vec Ideal S1x2048x128 .bf16) (x3 x4 : Vec Ideal S1x2048x256 .bf16)
    (o : Nat) (ho : o + 256 ≤ 2048) (hq) (h1) (h2) (h3) (h4) (h5) (hg) (hx) (L M : List (View.Piece (Elt Ideal) S2x2048x256 .bf16)) (x) :
    k0_pay12 (F := Ideal) (View.ld (S := S1x2048x512) x0 (Rect.unit ![0, o, 256] ![1, 256, 256] hq))
      ((View.whole cc0_scratch0).readCov (Val := Elt Ideal)
        (⟨Rect.unit (s := S2x2048x256) ![1, 0, 128] ![1, 2048, 128] h2, k0_pay7 (F := Ideal) x2⟩ ::
          ⟨Rect.unit (s := S2x2048x256) ![1, 0, 0] ![1, 2048, 128] h1, k0_pay6 (F := Ideal) (View.ld (S := S1x2048x256) x1 (Rect.unit ![0, 0, 128] ![1, 2048, 128] h4))⟩ :: L)
        (Rect.unit (s := S2x2048x256) ![1, 0, 0] ![1, 2048, 256] h3).toLoadRect)
      ((View.whole cc0_scratch1).readCov (Val := Elt Ideal)
        (⟨Rect.unit (s := S2x2048x256) ![1, 0, 128] ![1, 2048, 128] h2, k0_pay9 (F := Ideal)⟩ ::
          ⟨Rect.unit (s := S2x2048x256) ![1, 0, 0] ![1, 2048, 128] h1, k0_pay8 (F := Ideal) (View.ld (S := S1x2048x256) x3 (Rect.unit ![0, 0, 128] ![1, 2048, 128] h5))⟩ :: M)
        (Rect.unit (s := S2x2048x256) ![1, 0, 0] ![1, 2048, 256] h3).toLoadRect)
      (View.ld (S := S1x2048x256) x4 (Rect.unit ![0, o, 128] ![1, 256, 128] hg)) x
    = whole x0 x1 x2 x3 x4 ((Rect.unit (s := S1x2048x256) ![0, o, 128] ![1, 256, 128] hx).emb x) := by
  obtain ⟨z, a, d, rfl⟩ : ∃ (z : Fin 1) (a : Fin 256) (d : Fin 128), x = ix3 z a d := ⟨x 0, x 1, x 2, eq_ix3 x⟩
  obtain rfl : z = 0 := Subsingleton.elim _ _
  refine (tile_block x0 x1 x2 x3 x4 1 o ho _ _ _ _ _ _ _ _ (fun a j => ?_) (fun r j => cat_apply _ 1 _ _ _ _ _ _ r j) (fun r j => cat_apply _ 1 _ _ _ _ _ _ r j)
    (fun r d => (pay6_apply _ r d).trans ?_) (fun r d => pay7_apply _ r d) (fun r d => (pay8_apply _ r d).trans ?_) (fun r d => pay9_apply r d) (fun a d => ?_) a d).trans
    (whole_eq x0 x1 x2 x3 x4 1 _ d _ ?_ ?_).symm
  · exact ld_read x0 _ _ _ _ _ _ _ _ _ _ rfl rfl (by simp)
  · exact ld_read x1 _ _ _ _ _ _ _ _ _ _ rfl (by simp) (by simp)
  · exact ld_read x3 _ _ _ _ _ _ _ _ _ _ rfl (by simp) (by simp)
  · exact ld_read x4 _ _ _ _ _ _ _ _ _ _ rfl rfl (by simp)
  · rw [ValueKit.rect_emb_unit_val]; simp
  · rw [ValueKit.rect_emb_unit_val]; simp

/-! All row tiles are computed by the same operations. -/

section
variable (q : Vec Ideal S1x256x256 .bf16) (k v : Vec Ideal S1x2048x256 .bf16) (g : Vec Ideal S1x256x128 .bf16)

theorem same0 : k0_pay11 (F := Ideal) (k0_pay10 (F := Ideal) q k v) g = k0_pay12 (F := Ideal) q k v g := rfl

theorem same1 : k0_pay13 (F := Ideal) q k v g = k0_pay12 (F := Ideal) q k v g := rfl

theorem same2 : k0_pay16 (F := Ideal) (k0_pay14 (F := Ideal) q k) (k0_pay15 (F := Ideal) q k) v g = k0_pay12 (F := Ideal) q k v g := rfl

theorem same3 : k0_pay19 (F := Ideal) (k0_pay17 (F := Ideal) q k v) (k0_pay18 (F := Ideal) g) = k0_pay12 (F := Ideal) q k v g := rfl

theorem same4 : k0_pay20 (F := Ideal) q k v g = k0_pay12 (F := Ideal) q k v g := rfl

theorem same5 : k0_pay21 (F := Ideal) q k v g = k0_pay12 (F := Ideal) q k v g := rfl

theorem same6 : k0_pay23 (F := Ideal) (k0_pay22 (F := Ideal) q k) v g = k0_pay12 (F := Ideal) q k v g := rfl

theorem same7 : k0_pay25 (F := Ideal) (k0_pay24 (F := Ideal) q k v g) = k0_pay12 (F := Ideal) q k v g := rfl

theorem same8 : k0_pay26 (F := Ideal) q k v g = k0_pay12 (F := Ideal) q k v g := rfl

theorem same9 : k0_pay28 (F := Ideal) (k0_pay27 (F := Ideal) q) k v g = k0_pay12 (F := Ideal) q k v g := rfl

theorem same10 : k0_pay31 (F := Ideal) (k0_pay29 (F := Ideal) q k) (k0_pay30 (F := Ideal) v) g = k0_pay12 (F := Ideal) q k v g := rfl

theorem same11 : k0_pay33 (F := Ideal) (k0_pay32 (F := Ideal) q k v g) = k0_pay12 (F := Ideal) q k v g := rfl

theorem same12 : k0_pay34 (F := Ideal) q k v g = k0_pay12 (F := Ideal) q k v g := rfl

theorem same13 : k0_pay36 (F := Ideal) (k0_pay35 (F := Ideal) q k) v g = k0_pay12 (F := Ideal) q k v g := rfl

theorem same14 : k0_pay1 (F := Ideal) (k0_pay37 (F := Ideal) q k v) g = k0_pay12 (F := Ideal) q k v g := rfl

end

variable (m : (ℓ : Loc nD τ sig) → Buf (Elt Ideal) ℓ)

set_option maxHeartbeats 800000 in
/-- The block a grid point leaves. -/
theorem outs_eq (c : Dev nD) (t : Fin cfg0.N) (y : S1x2048x256.Idx) :
    outsAt0 m c t y = whole (iblk m c 0 t) (iblk m c 1 t) (iblk m c 2 t) (iblk m c 3 t) (iblk m c 4 t) y := by
  unfold outsAt0
  frame_open
  simp (disch := decide) only [↓ View.readCov_skip, ↓ View.readCov_cons_toLoadRect, ↓ View.readCov_fill]
  frame_out
  simp only [same0, same1, same2, same3, same4, same5, same6, same7, same8, same9, same10, same11, same12, same13, same14]
  refine View.canon_apply_of_pieces (Val := Elt Ideal) (whole (iblk m c 0 t) (iblk m c 1 t) (iblk m c 2 t) (iblk m c 3 t) (iblk m c 4 t)) _ ?_ y ?_
  · refine View.PiecesOf.mem ?_
    exact ⟨fun x => piece1 _ _ _ _ _ 1792 (by decide) _ _ _ _ _ _ _ inb_S1x2048x256_S1x256x128_0_1792_128 _ _ x,
      fun x => piece1 _ _ _ _ _ 1536 (by decide) _ _ _ _ _ _ _ inb_S1x2048x256_S1x256x128_0_1536_128 _ _ x,
      fun x => piece1 _ _ _ _ _ 1280 (by decide) _ _ _ _ _ _ _ inb_S1x2048x256_S1x256x128_0_1280_128 _ _ x,
      fun x => piece1 _ _ _ _ _ 1024 (by decide) _ _ _ _ _ _ _ inb_S1x2048x256_S1x256x128_0_1024_128 _ _ x,
      fun x => piece1 _ _ _ _ _ 768 (by decide) _ _ _ _ _ _ _ inb_S1x2048x256_S1x256x128_0_768_128 _ _ x,
      fun x => piece1 _ _ _ _ _ 512 (by decide) _ _ _ _ _ _ _ inb_S1x2048x256_S1x256x128_0_512_128 _ _ x,
      fun x => piece1 _ _ _ _ _ 256 (by decide) _ _ _ _ _ _ _ inb_S1x2048x256_S1x256x128_0_256_128 _ _ x,
      fun x => piece1 _ _ _ _ _ 0 (by decide) _ _ _ _ _ _ _ inb_S1x2048x256_S1x256x128_0_0_128 _ _ x,
      fun x => piece0 _ _ _ _ _ 1792 (by decide) _ _ _ _ _ _ _ inb_S1x2048x256_S1x256x128_0_1792_0 _ _ x,
      fun x => piece0 _ _ _ _ _ 1536 (by decide) _ _ _ _ _ _ _ inb_S1x2048x256_S1x256x128_0_1536_0 _ _ x,
      fun x => piece0 _ _ _ _ _ 1280 (by decide) _ _ _ _ _ _ _ inb_S1x2048x256_S1x256x128_0_1280_0 _ _ x,
      fun x => piece0 _ _ _ _ _ 1024 (by decide) _ _ _ _ _ _ _ inb_S1x2048x256_S1x256x128_0_1024_0 _ _ x,
      fun x => piece0 _ _ _ _ _ 768 (by decide) _ _ _ _ _ _ _ inb_S1x2048x256_S1x256x128_0_768_0 _ _ x,
      fun x => piece0 _ _ _ _ _ 512 (by decide) _ _ _ _ _ _ _ inb_S1x2048x256_S1x256x128_0_512_0 _ _ x,
      fun x => piece0 _ _ _ _ _ 256 (by decide) _ _ _ _ _ _ _ inb_S1x2048x256_S1x256x128_0_256_0 _ _ x,
      fun x => piece0 _ _ _ _ _ 0 (by decide) _ _ _ _ _ _ _ inb_S1x2048x256_S1x256x128_0_0_0 _ _ x, trivial⟩
  · exact View.cover_of_tiledL _ ![1, 256, 128] rfl y

end Cert.Attention

end
-- ==== Proof.Attention.lean ====
/-
  The attention kernel and its reference end with the same array when queries and keys are finite.
-/
module

public import proofs.«01_k».proof.Proof.Attn
public import proofs.«01_k».proof.Proof.Gen.Pre_finite_scores

@[expose] public section

set_option maxRecDepth 16384

noncomputable section

namespace Cert.Attention

open Idealize.ShloMosaic Idealize.SL.Sem Cert.AttnIdeal Cert.AttnIdeal.Gen
open Cert.AttnReferenceIdeal.Read
open Cert.AttnRef (score query key)

/-- A score of real queries and keys is real. -/
theorem score_real (q : Fin 2 → Fin 128 → EReal) (kn kp : Fin 128 → EReal) (hq : ∀ p d, ∃ r : ℝ, q p d = (r : EReal))
    (hn : ∀ d, ∃ r : ℝ, kn d = (r : EReal)) (hp : ∀ d, ∃ r : ℝ, kp d = (r : EReal)) : ∃ r : ℝ, score q kn kp = (r : EReal) := by
  choose fq eq using hq
  choose fn en using hn
  choose fp ep using hp
  refine ⟨∑ d, fq 0 d * fn d + ∑ d, fq 1 d * fp d, ?_⟩
  unfold score
  simp only [eq, en, ep, ← EReal.coe_mul, Softmax.coe_sum, ← EReal.coe_add]

/-- The reference's result, from real queries and keys, is attention as the kernel takes it. -/
theorem reference_apply (x0 : Vec Ideal S32x2048x2048 .bf16) (x1 : Vec Ideal S32x2048x1024 .bf16) (x2 : Vec Ideal S32x2048x128 .bf16)
    (x3 x4 : Vec Ideal S32x2048x1024 .bf16) (r0 : ∀ i, ∃ r : ℝ, x0 i = (r : EReal)) (r1 : ∀ i, ∃ r : ℝ, x1 i = (r : EReal))
    (r2 : ∀ i, ∃ r : ℝ, x2 i = (r : EReal)) (b : Fin 32) (s : Fin 2048) (n : Fin 1024) (h : Fin 8) (hh : h.val = n.val / 128) :
    val_main_v33 (F := Ideal) x0 x1 x2 x3 x4 (ix3 b s n)
      = attend (fun k => score (query (fun j => x0 (ix3 b s j)) h) (key (fun j => x1 (ix3 b k j)) h) (fun d => x2 (ix3 b k d)))
          (fun k => x3 (ix3 b k n)) (x4 (ix3 b s n)) := by
  have real : ∀ (h : Fin 8) (s k : Fin 2048), ∃ r : ℝ,
      score (query (fun j => x0 (ix3 b s j)) h) (key (fun j => x1 (ix3 b k j)) h) (fun d => x2 (ix3 b k d)) = (r : EReal) :=
    fun h s k => score_real _ _ _ (fun _ _ => r0 _) (fun _ => r1 _) (fun _ => r2 _)
  have h17 : ∀ i, ∃ r : ℝ, val_main_v17 (F := Ideal) x0 x1 x2 i = (r : EReal) := fun i => by
    obtain ⟨b, h, s, k, rfl⟩ : ∃ (b : Fin 32) (h : Fin 8) (s k : Fin 2048), i = ix4 b h s k := ⟨i 0, i 1, i 2, i 3, eq_ix4 i⟩
    rw [AttnRef.score_apply]
    obtain ⟨r, hr⟩ := score_real (query (fun j => x0 (ix3 b s j)) h) (key (fun j => x1 (ix3 b k j)) h) (fun d => x2 (ix3 b k d))
      (fun _ _ => r0 _) (fun _ => r1 _) (fun _ => r2 _)
    exact ⟨r * Real.log 2, by rw [hr, EReal.coe_mul]⟩
  have e : (⟨n / 128, by omega⟩ : Fin 8) = h := Fin.ext hh.symm
  rw [AttnRef.result_apply, e]
  unfold attend
  refine congrArg (· * _) ?_
  simp only [AttnRef.weight_apply, AttnRef.den_apply, AttnRef.exp_apply, AttnRef.score_apply]
  obtain ⟨e', he⟩ := AttnRef.max_real x0 x1 x2 h17 (ix3 b h s)
  rw [he]
  choose f hf using real h s
  simp only [hf]
  obtain ⟨a, ha⟩ := Softmax.fold_max_real (0 : Fin 2048) (fun k => ((f k : ℝ) : EReal)) (fun k => ⟨_, rfl⟩)
  rw [ha]
  exact (Softmax.eq 0 f a e' _).symm

variable (m : (ℓ : Loc nD τ sig) → Buf (Elt Ideal) ℓ)

/-- Which blocks the windows take at a grid point. -/
theorem index_eq : ∀ t : Fin grid0.N, win0_0.index t = ![t.val / 4, 0, t.val % 4] ∧ win0_1.index t = ![t.val / 4, 0, t.val % 4]
    ∧ win0_2.index t = ![t.val / 4, 0, 0] ∧ win0_3.index t = ![t.val / 4, 0, t.val % 4] ∧ win0_4.index t = ![t.val / 4, 0, t.val % 4]
    ∧ win0_5.index t = ![t.val / 4, 0, t.val % 4] := by
  decide +kernel

/-- The batch of a grid point. -/
def batch (t : Fin cfg0.N) : Fin 32 := ⟨t.val / 4, by have : t.val < 128 := t.isLt; omega⟩

/-- The queries of a grid point. -/
theorem query_block (c : Dev nD) (t : Fin cfg0.N) (r : Fin 2048) (j : Fin 512) : iblk m c 0 t (ix3 0 r j)
    = m ((c.tc : Thread nD τ).loc main_arg0) (ix3 (batch t) r (⟨t.val % 4 * 512 + j, by omega⟩ : Fin 2048)) := by
  have hi := (index_eq t).1
  unfold batch
  blk_ext [iblk, V, hi]

/-- The keys of a grid point. -/
theorem key_block (c : Dev nD) (t : Fin cfg0.N) (r : Fin 2048) (j : Fin 256) : iblk m c 1 t (ix3 0 r j)
    = m ((c.tc : Thread nD τ).loc main_arg1) (ix3 (batch t) r (⟨t.val % 4 * 256 + j, by omega⟩ : Fin 1024)) := by
  have hi := (index_eq t).2.1
  unfold batch
  blk_ext [iblk, V, hi]

/-- The shared keys of a grid point. -/
theorem shared_block (c : Dev nD) (t : Fin cfg0.N) (r : Fin 2048) (j : Fin 128) : iblk m c 2 t (ix3 0 r j)
    = m ((c.tc : Thread nD τ).loc main_arg2) (ix3 (batch t) r j) := by
  have hi := (index_eq t).2.2.1
  unfold batch
  blk_ext [iblk, V, hi]

/-- The values of a grid point. -/
theorem value_block (c : Dev nD) (t : Fin cfg0.N) (r : Fin 2048) (j : Fin 256) : iblk m c 3 t (ix3 0 r j)
    = m ((c.tc : Thread nD τ).loc main_arg3) (ix3 (batch t) r (⟨t.val % 4 * 256 + j, by omega⟩ : Fin 1024)) := by
  have hi := (index_eq t).2.2.2.1
  unfold batch
  blk_ext [iblk, V, hi]

/-- The gates of a grid point. -/
theorem gate_block (c : Dev nD) (t : Fin cfg0.N) (r : Fin 2048) (j : Fin 256) : iblk m c 4 t (ix3 0 r j)
    = m ((c.tc : Thread nD τ).loc main_arg4) (ix3 (batch t) r (⟨t.val % 4 * 256 + j, by omega⟩ : Fin 1024)) := by
  have hi := (index_eq t).2.2.2.2.1
  unfold batch
  blk_ext [iblk, V, hi]

/-- The reference's result at the kernel's arguments. -/
def result (c : Dev nD) : Buf (Elt Ideal) ((c.tc : Thread nD τ).loc main_v0) :=
  val_main_v33 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Queries and keys are real. -/
def AllReal (c : Dev nD) : Prop := (∀ i, ∃ r : ℝ, m ((c.tc : Thread nD τ).loc main_arg0) i = (r : EReal))
  ∧ (∀ i, ∃ r : ℝ, m ((c.tc : Thread nD τ).loc main_arg1) i = (r : EReal)) ∧ ∀ i, ∃ r : ℝ, m ((c.tc : Thread nD τ).loc main_arg2) i = (r : EReal)

/-- The array after the run is the reference's. -/
theorem final (c : Dev nD) (hr : AllReal m c) : (dats m 0 c).arrAt 5 cfg0.N = result m c := by
  refine (dats m 0 c).arrAt_eq_of_covers 5 _ (by decide +kernel) fun t hf y => ?_
  blk_simp
  rw [after0_5, outs_eq]
  obtain ⟨z, r, l, rfl⟩ : ∃ (z : Fin 1) (r : Fin 2048) (l : Fin 256), y = ix3 z r l := ⟨y 0, y 1, y 2, eq_ix3 y⟩
  obtain rfl : z = 0 := Subsingleton.elim _ _
  have he : ((View.whole main_v0).slice (win0_5.rect t)).emb (ix3 0 r l)
      = ix3 (batch t) r (⟨t.val % 4 * 256 + l, by omega⟩ : Fin 1024) := by
    have hi := (index_eq t).2.2.2.2.2
    unfold batch
    blk_ext [hi]
  rw [he]
  refine Eq.trans ?_ (reference_apply _ _ _ _ _ hr.1 hr.2.1 hr.2.2 (batch t) r _ ⟨t.val % 4 * 2 + l.val / 128, by omega⟩ (by
    show t.val % 4 * 2 + l.val / 128 = (t.val % 4 * 256 + l.val) / 128
    omega)).symm
  refine (whole_eq _ _ _ _ _ ⟨l.val / 128, by omega⟩ r ⟨l.val % 128, Nat.mod_lt _ (by decide)⟩ _ rfl (by
    show l.val = l.val / 128 * 128 + l.val % 128
    omega)).trans ?_
  unfold block
  simp only [query_block, key_block, shared_block, value_block, gate_block]
  refine congr (congr (congrArg attend (funext fun k => ?_)) (funext fun k => ?_)) ?_
  · unfold query key
    refine congr (congr (congrArg score (funext fun p => funext fun j => ?_)) (funext fun j => ?_)) rfl
    · refine congrArg _ (congrArg (ix3 _ _) (Fin.ext ?_))
      show t.val % 4 * 512 + (l.val / 128 * 256 + (p.val * 128 + j.val)) = (t.val % 4 * 2 + l.val / 128) * 256 + (p.val * 128 + j.val)
      omega
    · refine congrArg _ (congrArg (ix3 _ _) (Fin.ext ?_))
      show t.val % 4 * 256 + (l.val / 128 * 128 + j.val) = (t.val % 4 * 2 + l.val / 128) * 128 + j.val
      omega
  · refine congrArg _ (congrArg (ix3 _ _) (Fin.ext ?_))
    show t.val % 4 * 256 + (l.val / 128 * 128 + l.val % 128) = t.val % 4 * 256 + l.val
    omega
  · refine congrArg _ (congrArg (ix3 _ _) (Fin.ext ?_))
    show t.val % 4 * 256 + (l.val / 128 * 128 + l.val % 128) = t.val % 4 * 256 + l.val
    omega

/-- A comparison that is one holds. -/
theorem of_bool (b : Bool) (h : BitVec.ofBool b = 1#1) : b = true := by
  cases b
  · exact absurd h (by decide)
  · rfl

/-- The precondition says that queries and keys are real. -/
theorem all_real (h : Cert.Pre_AttnIdeal_finite_scores (hPre_finite_scores := Cert.Pre_finite_scores.Gen.facts) m) (c : Dev nD) : AllReal m c := by
  obtain ⟨h0, h1, h2⟩ := h c
  refine ⟨fun i => Softmax.real_of_lt _ ?_, fun i => Softmax.real_of_lt _ ?_, fun i => Softmax.real_of_lt _ ?_⟩
  · exact of_decide_eq_true (of_bool _ (congrFun h0 i))
  · exact of_decide_eq_true (of_bool _ (congrFun h1 i))
  · exact of_decide_eq_true (of_bool _ (congrFun h2 i))

/-- The reference's frame: it holds no counter. -/
theorem reference_frame : Cert.quiescent_AttnReferenceIdeal (hAttnReferenceIdeal := Cert.AttnReferenceIdeal.Gen.facts) := fun m g _ =>
  (θ_run _ _ _).mono (fun _ h => ⟨fun c => (h c).2, sem_eq_zero_of_no_sems (by decide) _⟩) (Cert.AttnReferenceIdeal.Value.run m g)

/-- The kernel and the reference end with the same array. -/
theorem algebraic : Cert.algebraic_AttnIdeal_AttnReferenceIdeal_pre_finite_scores (hAttnIdeal := Cert.AttnIdeal.Gen.facts)
    (hAttnReferenceIdeal := Cert.AttnReferenceIdeal.Gen.facts) (hPre_finite_scores := Cert.Pre_finite_scores.Gen.facts) := fun m g m' g' hpre hagree =>
  ⟨fun c => result m c,
    (θ_run _ _ _).mono (fun _ h c => ⟨(h c).1.trans (final m c (all_real m hpre c)), (h c).2⟩) (Cert.AttnIdeal.Value.run_blocks m g),
    (θ_run _ _ _).mono (fun _ h c => ⟨by
      refine (h c).1.trans ((val_main_v33_eq _ _).trans ?_)
      obtain ⟨h0, h1, h2, h3, h4⟩ := hagree c
      rw [h0, h1, h2, h3, h4]
      rfl, (h c).2⟩) (Cert.AttnReferenceIdeal.Value.run m' g')⟩

end Cert.Attention

end
-- ==== Proof.Mid.lean ====
/-
  The output projection of the latent attention: the kernel computes the reference. A grid point takes 1024 tokens,
  multiplies their gated attention rows with the output weights, adds the residual rows and norms each of them.
-/
module

public import proofs.«01_k».proof.Defs
public import proofs.«01_k».proof.Proof.HyoutRef
public import proofs.«01_k».proof.Proof.Gen.MidIdeal.Value
public import proofs.«01_k».proof.Proof.Gen.MidReferenceIdeal.Read
public import Idealize.ShloMosaic.Lib.Pointwise
public import Idealize.ShloMosaic.Lib.Pipeline.ValueKit
public import Idealize.ShloMosaic.Lib.WholeRead
public import Idealize.ShloMosaic.Lib.Quiescent

@[expose] public section

set_option maxRecDepth 16384

noncomputable section

namespace Cert.Mid2

open Idealize.ShloMosaic Idealize.SL.Sem Cert.MidIdeal Cert.MidIdeal.Gen
open Cert.MidReferenceIdeal.Read
open Cert.HyoutRef (normed)

/-- The reference's residual stream at an element. -/
theorem sum_apply (x0 : Vec Ideal S65536x1024 .bf16) (x1 : Vec Ideal S65536x1024 .f32) (x2 : Vec Ideal S1024x1024 .f32) (i : Fin 65536) (l : Fin 1024) :
    val_main_v2 (F := Ideal) x0 x1 x2 (ix2 i l) = x1 (ix2 i l) + ∑ c : Fin 1024, x0 (ix2 i c) * x2 (ix2 c l) := by
  pointwise [val_main_v2, val_main_v1, val_main_v0]

/-- The reference's normed row at an element. -/
theorem norm_apply (x0 : Vec Ideal S65536x1024 .bf16) (x1 : Vec Ideal S65536x1024 .f32) (x2 : Vec Ideal S1024x1024 .f32) (x3 : Vec Ideal S1024 .f32)
    (i : Fin 65536) (l : Fin 1024) :
    val_main_v16 (F := Ideal) x0 x1 x2 x3 (ix2 i l)
      = normed (fun c => x0 (ix2 i c)) (fun d => x1 (ix2 i d)) (fun c d => x2 (ix2 c d)) (fun d => x3 (ix1 d)) l := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]
  rfl

/-- The kernel's residual block at an element. -/
theorem block_sum (x : Vec Ideal S1024x1024 .f32) (o : Vec Ideal S1024x1024 .bf16) (w : Vec Ideal S1024x1024 .bf16) (a l : Fin 1024) :
    k0_pay1 (F := Ideal) x o w (ix2 a l) = x (ix2 a l) + ∑ c : Fin 1024, o (ix2 a c) * w (ix2 c l) := by
  pointwise [k0_pay1]

/-- The kernel's normed block at an element. -/
theorem block_norm (x : Vec Ideal S1024x1024 .f32) (o : Vec Ideal S1024x1024 .bf16) (w : Vec Ideal S1024x1024 .bf16) (g : Vec Ideal S1x1024 .f32)
    (a l : Fin 1024) :
    k0_pay2 (F := Ideal) x o w g (ix2 a l)
      = normed (fun c => o (ix2 a c)) (fun d => x (ix2 a d)) (fun c d => w (ix2 c d)) (fun d => g (ix2 0 d)) l := by
  pointwise [k0_pay2, k0_pay1]
  rfl

variable (m : (ℓ : Loc nD τ sig) → Buf (Elt Ideal) ℓ)

/-- Which blocks the windows take at a grid point. -/
theorem index_eq : ∀ t : Fin grid0.N, win0_0.index t = ![t.val, 0] ∧ win0_1.index t = ![t.val, 0]
    ∧ win0_2.index t = ![0, 0] ∧ win0_3.index t = ![0, 0] ∧ win0_4.index t = ![t.val, 0] ∧ win0_5.index t = ![t.val, 0] := by
  decide +kernel

/-- The attention rows of a grid point. -/
theorem attn_block (c : Dev nD) (t : Fin cfg0.N) (a d : Fin 1024) : iblk m c 0 t (ix2 a d)
    = m ((c.tc : Thread nD τ).loc main_arg0) (ix2 (⟨t.val * 1024 + a, by have : t.val < 64 := t.isLt; omega⟩ : Fin 65536) d) := by
  have hi := (index_eq t).1
  blk_ext [iblk, V, hi]

/-- The residual rows of a grid point. -/
theorem res_block (c : Dev nD) (t : Fin cfg0.N) (a d : Fin 1024) : iblk m c 1 t (ix2 a d)
    = m ((c.tc : Thread nD τ).loc main_arg1) (ix2 (⟨t.val * 1024 + a, by have : t.val < 64 := t.isLt; omega⟩ : Fin 65536) d) := by
  have hi := (index_eq t).2.1
  blk_ext [iblk, V, hi]

/-- The weights of a grid point: all of them. -/
theorem weight_block (c : Dev nD) (t : Fin cfg0.N) (a d : Fin 1024) : iblk m c 2 t (ix2 a d) = m ((c.tc : Thread nD τ).loc main_arg2) (ix2 a d) := by
  have hi := (index_eq t).2.2.1
  blk_ext! [iblk, V, hi]

/-- The norm's gains of a grid point. -/
theorem gain_block (c : Dev nD) (t : Fin cfg0.N) (d : Fin 1024) : iblk m c 3 t (ix2 0 d) = m ((c.tc : Thread nD τ).loc main_arg3) (ix1 d) := by
  have hi := (index_eq t).2.2.2.1
  blk_ext! [iblk, V, hi]

/-- The reference's results at the kernel's arguments. -/
def result0 (c : Dev nD) : Buf (Elt Ideal) ((c.tc : Thread nD τ).loc main_v2_0) :=
  val_main_v2 (F := Ideal) (m ((c.tc : Thread nD τ).loc main_arg0)) (m ((c.tc : Thread nD τ).loc main_arg1)) (m ((c.tc : Thread nD τ).loc main_arg2))

/-- The reference's normed rows at the kernel's arguments. -/
def result1 (c : Dev nD) : Buf (Elt Ideal) ((c.tc : Thread nD τ).loc main_v2_1) :=
  val_main_v16 (F := Ideal) (m ((c.tc : Thread nD τ).loc main_arg0)) (m ((c.tc : Thread nD τ).loc main_arg1)) (m ((c.tc : Thread nD τ).loc main_arg2))
    (m ((c.tc : Thread nD τ).loc main_arg3))

/-- The residual stream after the run is the reference's. -/
theorem final0 (c : Dev nD) : (dats m 0 c).arrAt 4 cfg0.N = result0 m c := by
  refine (dats m 0 c).arrAt_eq_of_covers 4 _ (by decide +kernel) fun t hf y => ?_
  blk_simp
  rw [after0_4]
  unfold out0_4
  frame_out
  obtain ⟨a, l, rfl⟩ : ∃ (a : Fin 1024) (l : Fin 1024), y = ix2 a l := ⟨y 0, y 1, eq_ix2 y⟩
  refine (block_sum _ _ _ _ _).trans ?_
  have he : ((View.whole main_v2_0).slice (win0_4.rect t)).emb (ix2 a l)
      = ix2 (⟨t.val * 1024 + a, by have : t.val < 64 := t.isLt; omega⟩ : Fin 65536) l := by
    have hi := (index_eq t).2.2.2.2.1
    blk_ext [hi]
  rw [he]
  refine Eq.trans ?_ (sum_apply _ _ _ _ _).symm
  simp only [attn_block, res_block, weight_block]

/-- The normed rows after the run are the reference's. -/
theorem final1 (c : Dev nD) : (dats m 0 c).arrAt 5 cfg0.N = result1 m c := by
  refine (dats m 0 c).arrAt_eq_of_covers 5 _ (by decide +kernel) fun t hf y => ?_
  blk_simp
  rw [after0_5]
  unfold out0_5
  frame_out
  obtain ⟨a, l, rfl⟩ : ∃ (a : Fin 1024) (l : Fin 1024), y = ix2 a l := ⟨y 0, y 1, eq_ix2 y⟩
  refine (block_norm _ _ _ _ _ _).trans ?_
  have he : ((View.whole main_v2_1).slice (win0_5.rect t)).emb (ix2 a l)
      = ix2 (⟨t.val * 1024 + a, by have : t.val < 64 := t.isLt; omega⟩ : Fin 65536) l := by
    have hi := (index_eq t).2.2.2.2.2
    blk_ext [hi]
  rw [he]
  refine Eq.trans ?_ (norm_apply _ _ _ _ _ _).symm
  simp only [attn_block, res_block, weight_block, gain_block]

/-- The reference's frame: it holds no counter. -/
theorem reference_frame : Cert.quiescent_MidReferenceIdeal (hMidReferenceIdeal := Cert.MidReferenceIdeal.Gen.facts) := fun m g _ =>
  (θ_run _ _ _).mono (fun _ h => ⟨fun c => (h c).2.2, sem_eq_zero_of_no_sems (by decide) _⟩) (Cert.MidReferenceIdeal.Value.run m g)

/-- The kernel and the reference end with the same two arrays. -/
theorem algebraic : Cert.algebraic_MidIdeal_MidReferenceIdeal (hMidIdeal := Cert.MidIdeal.Gen.facts)
    (hMidReferenceIdeal := Cert.MidReferenceIdeal.Gen.facts) := fun m g m' g' _ hagree =>
  ⟨fun c => result0 m c, fun c => result1 m c,
    (θ_run _ _ _).mono (fun _ h c => ⟨(h c).1.trans (final0 m c), (h c).2.1.trans (final1 m c), (h c).2.2⟩) (Cert.MidIdeal.Value.run_blocks m g),
    (θ_run _ _ _).mono (fun _ h c => ⟨by
      refine (h c).1.trans ((val_main_v2_eq _ _ _).trans ?_)
      obtain ⟨h0, h1, h2, h3⟩ := hagree c
      rw [h0, h1, h2]
      rfl, by
      refine (h c).2.1.trans ((val_main_v16_eq _ _ _ _).trans ?_)
      obtain ⟨h0, h1, h2, h3⟩ := hagree c
      rw [h0, h1, h2, h3]
      rfl, (h c).2.2⟩) (Cert.MidReferenceIdeal.Value.run m' g')⟩

end Cert.Mid2

end
-- ==== Proof.FrontRef.lean ====
/-
  The reference of the latent attention's front, read at one element. A token's row is normed and projected to 1728
  latent features: 384 for the queries, 256 for keys and values, 64 for the shared key and 1024 for the gates. The
  queries' features and the keys' are normed again and projected to the heads. The last 64 features of each query, and
  the shared key, are rotated by the token's position.
-/
module

public import Idealize.ShloMosaic.Lib.Pointwise
public import proofs.«01_k».proof.Proof.Gen.FrontReferenceIdeal.Read

@[expose] public section

set_option maxRecDepth 16384

noncomputable section

namespace Cert.FrontRef

open Idealize.ShloMosaic Cert.FrontReferenceIdeal Cert.FrontReferenceIdeal.Gen Cert.FrontReferenceIdeal.Read

/-- RMSNorm of a row at a feature: `K` is the number of features. -/
def rms {n : Nat} (K : EReal) (x g : Fin n → EReal) (l : Fin n) : EReal :=
  x l * Ideal.rsqrt (Ideal.div (∑ d, x d * x d) K + Ideal.ofBits .f32 0x358637BD#32) * g l

/-- A normed row times a column of weights. -/
def up {n : Nat} (K : EReal) (x g w : Fin n → EReal) : EReal := ∑ c, rms K x g c * w c

/-- The rotation of a row of 64 features by the cosines and sines of 32 angles. -/
def rope (t : Fin 64 → EReal) (cs sn : Fin 32 → EReal) (j : Fin 64) : EReal :=
  if h : j.val < 32 then t j * cs ⟨j, h⟩ - t ⟨j + 32, by omega⟩ * sn ⟨j, h⟩
  else t ⟨j - 32, by omega⟩ * sn ⟨j - 32, by omega⟩ + t j * cs ⟨j - 32, by omega⟩

/-- The gate's activation. -/
def silu (g : EReal) : EReal := g * Ideal.div 1 (1 + Ideal.exp (-g))

variable (x0 : Vec Ideal S32x2048x1024 .f32) (x1 : Vec Ideal S1024 .f32) (x2 : Vec Ideal S1024x1728 .f32) (x3 : Vec Ideal S384 .f32)
  (x4 : Vec Ideal S384x1536 .f32) (x5 : Vec Ideal S256 .f32) (x6 : Vec Ideal S256x2048 .f32)

/-- A token's latent feature. -/
def lat (b : Fin 32) (s : Fin 2048) (j : Fin 1728) : EReal :=
  up (Ideal.ofBits .f32 0x44800000#32) (fun d => x0 (ix3 b s d)) (fun d => x1 (ix1 d)) (fun c => x2 (ix2 c j))

/-- A token's query feature before the rotation. -/
def qry (b : Fin 32) (s : Fin 2048) (j : Fin 1536) : EReal :=
  up (Ideal.ofBits .f32 0x43C00000#32) (fun d : Fin 384 => lat x0 x1 x2 b s ⟨d, by omega⟩) (fun d => x3 (ix1 d)) (fun c => x4 (ix2 c j))
    * Ideal.ofBits .f32 0x3DD53B95#32

/-- A token's key and value feature. -/
def kv (b : Fin 32) (s : Fin 2048) (j : Fin 2048) : EReal :=
  up (Ideal.ofBits .f32 0x43800000#32) (fun d : Fin 256 => lat x0 x1 x2 b s ⟨384 + d, by omega⟩) (fun d => x5 (ix1 d)) (fun c => x6 (ix2 c j))

/-- The projected row at an element. -/
theorem lat_apply (b : Fin 32) (s : Fin 2048) (j : Fin 1728) : val_main_v13 (F := Ideal) x0 x1 x2 (ix3 b s j) = lat x0 x1 x2 b s j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The queries before the rotation, at an element. -/
theorem qry_apply (b : Fin 32) (s : Fin 2048) (j : Fin 1536) : val_main_v33 (F := Ideal) x0 x1 x2 x3 x4 (ix3 b s j) = qry x0 x1 x2 x3 x4 b s j := by
  unfold qry
  simp only [← lat_apply]
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v14, val_main_cst_2, val_main_cst_3, val_main_cst_4, val_main_cst_5]
  rfl

/-- Keys and values at an element. -/
theorem kv_apply (b : Fin 32) (s : Fin 2048) (j : Fin 2048) : val_main_v48 (F := Ideal) x0 x1 x2 x5 x6 (ix3 b s j) = kv x0 x1 x2 x5 x6 b s j := by
  unfold kv
  simp only [← lat_apply]
  pointwise [val_main_v48, val_main_v47, val_main_v46, val_main_v45, val_main_v44, val_main_v43, val_main_v42, val_main_v41, val_main_v40, val_main_v39,
    val_main_v38, val_main_v37, val_main_v36, val_main_v35, val_main_v15, val_main_cst_6, val_main_cst_7, val_main_cst_8]
  rfl

/-- The cosine of a token's angle. -/
def cs (s : Fin 2048) (k : Fin 32) : EReal := val_main_v67 (F := Ideal) (ix2 s k)

/-- The sine of a token's angle. -/
def sn (s : Fin 2048) (k : Fin 32) : EReal := val_main_v68 (F := Ideal) (ix2 s k)

/-- The rotated part of the queries at an element. -/
theorem rope_apply (b : Fin 32) (s : Fin 2048) (h : Fin 8) (j : Fin 64) : val_main_v88 (F := Ideal) x0 x1 x2 x3 x4 (ix4 b s h j)
    = rope (fun j => qry x0 x1 x2 x3 x4 b s ⟨h * 192 + (128 + j), by omega⟩) (cs s) (sn s) j := by
  unfold rope cs sn
  simp only [← qry_apply]
  pointwise [val_main_v88, val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_v70, val_main_v69, val_main_v34]
  by_cases hj : j.val < 32
  · have e : 32 + j.val = j.val + 32 := by omega
    rw [dif_pos hj, dif_pos hj]
    simp only [e]
  · have e : 32 + (j.val - 32) = j.val := by omega
    rw [dif_neg hj, dif_neg hj]
    simp only [e]

/-- The rotated shared key at an element. -/
theorem shared_apply (b : Fin 32) (s : Fin 2048) (j : Fin 64) : val_main_v105 (F := Ideal) x0 x1 x2 (ix3 b s j)
    = rope (fun j => lat x0 x1 x2 b s ⟨640 + j, by omega⟩) (cs s) (sn s) j := by
  unfold rope cs sn
  simp only [← lat_apply]
  pointwise [val_main_v105, val_main_v104, val_main_v103, val_main_v102, val_main_v101, val_main_v100, val_main_v99, val_main_v98, val_main_v97,
    val_main_v96, val_main_v95, val_main_v94, val_main_v93, val_main_v92, val_main_v91, val_main_v90, val_main_v89, val_main_v16]
  by_cases hj : j.val < 32
  · have e : 32 + j.val = j.val + 32 := by omega
    rw [dif_pos hj, dif_pos hj]
    simp only [e]
  · have e : 32 + (j.val - 32) = j.val := by omega
    rw [dif_neg hj, dif_neg hj]
    simp only [e]

/-- The queries' array at an element. -/
theorem result0 (i : Fin 65536) (l : Fin 2048) : val_main_v115 (F := Ideal) x0 x1 x2 x3 x4 (ix2 i l)
    = if h : l.val % 256 < 128 then qry x0 x1 x2 x3 x4 ⟨i / 2048, by omega⟩ ⟨i % 2048, by omega⟩ ⟨l / 256 * 192 + l % 256, by omega⟩
      else if h' : l.val % 256 < 192 then rope (fun j => qry x0 x1 x2 x3 x4 ⟨i / 2048, by omega⟩ ⟨i % 2048, by omega⟩ ⟨l / 256 * 192 + (128 + j), by omega⟩)
        (cs ⟨i % 2048, by omega⟩) (sn ⟨i % 2048, by omega⟩) ⟨l % 256 - 128, by omega⟩
      else 0 := by
  simp only [← qry_apply]
  pointwise [val_main_v115, val_main_v114, val_main_v108, val_main_v107, val_main_v106, val_main_v34, val_main_cst_14]
  by_cases h1 : l.val % 256 < 128
  · rw [dif_pos h1, dif_pos h1]
  · rw [dif_neg h1, dif_neg h1]
    by_cases h2 : l.val % 256 < 192
    · rw [dif_pos h2, dif_pos (by omega), rope_apply]
      simp only [← qry_apply]
    · rw [dif_neg h2, dif_neg (by omega)]

/-- The keys' array at an element. -/
theorem result1 (i : Fin 65536) (l : Fin 1024) : val_main_v117 (F := Ideal) x0 x1 x2 x5 x6 (ix2 i l)
    = kv x0 x1 x2 x5 x6 ⟨i / 2048, by omega⟩ ⟨i % 2048, by omega⟩ ⟨l / 128 * 256 + l % 128, by omega⟩ := by
  simp only [← kv_apply]
  pointwise [val_main_v117, val_main_v116, val_main_v111, val_main_v49]

/-- The shared keys' array at an element. -/
theorem result2 (i : Fin 65536) (l : Fin 128) : val_main_v119 (F := Ideal) x0 x1 x2 (ix2 i l)
    = if h : l.val < 64 then rope (fun j => lat x0 x1 x2 ⟨i / 2048, by omega⟩ ⟨i % 2048, by omega⟩ ⟨640 + j, by omega⟩)
        (cs ⟨i % 2048, by omega⟩) (sn ⟨i % 2048, by omega⟩) ⟨l, h⟩
      else 0 := by
  simp only [← shared_apply]
  pointwise [val_main_v119, val_main_v118, val_main_v110, val_main_v109, val_main_cst_15]

/-- The values' array at an element. -/
theorem result3 (i : Fin 65536) (l : Fin 1024) : val_main_v121 (F := Ideal) x0 x1 x2 x5 x6 (ix2 i l)
    = kv x0 x1 x2 x5 x6 ⟨i / 2048, by omega⟩ ⟨i % 2048, by omega⟩ ⟨l / 128 * 256 + (128 + l % 128), by omega⟩ := by
  simp only [← kv_apply]
  pointwise [val_main_v121, val_main_v120, val_main_v112, val_main_v49]

/-- The gates' array at an element. -/
theorem result4 (i : Fin 65536) (l : Fin 1024) : val_main_v123 (F := Ideal) x0 x1 x2 (ix2 i l)
    = silu (lat x0 x1 x2 ⟨i / 2048, by omega⟩ ⟨i % 2048, by omega⟩ ⟨704 + l, by omega⟩) := by
  unfold silu
  simp only [← lat_apply]
  pointwise [val_main_v123, val_main_v122, val_main_v113, val_main_call0_v5, val_main_call0_v4, val_main_call0_v3, val_main_call0_v2, val_main_call0_v1,
    val_main_call0_v0, val_main_call0_cst, val_main_call0_cst_0, val_main_v17]

end Cert.FrontRef

end
-- ==== Proof.FrontTile.lean ====
/-
  The front's tile at one element: what a grid point of 512 tokens stores, as a term over its blocks.
-/
module

public import Idealize.ShloMosaic.Lib.Pointwise
public import Idealize.ShloMosaic.Lib.KernelVsHost
public import proofs.«01_k».proof.Proof.FrontRef
public import proofs.«01_k».proof.Proof.Gen.FrontIdeal.Frame

@[expose] public section

set_option maxRecDepth 16384

noncomputable section

namespace Cert.FrontTile

open Idealize.ShloMosaic Cert.FrontIdeal Cert.FrontIdeal.Gen
open Cert.FrontRef (up rms)

variable (x : Vec Ideal S512x1024 .f32) (g : Vec Ideal S1x1024 .f32) (win : Vec Ideal S1024x1792 .bf16) (qn : Vec Ideal S1x384 .f32)
  (wq : Vec Ideal S384x1536 .bf16) (kn : Vec Ideal S1x256 .f32) (wk : Vec Ideal S256x2048 .bf16) (rc rs : Vec Ideal S512x128 .f32)

/-- The projected rows of the tile. -/
def tlat (a : Fin 512) (j : Fin 1792) : EReal :=
  up (Ideal.ofBits .f32 0x44800000#32) (fun d => x (ix2 a d)) (fun d => g (ix2 0 d)) (fun c => win (ix2 c j))

/-- The queries' features of the tile. -/
def tqry (a : Fin 512) (j : Fin 1536) : EReal :=
  up (Ideal.ofBits .f32 0x43C00000#32) (fun d : Fin 384 => tlat x g win a ⟨d, by omega⟩) (fun d => qn (ix2 0 d)) (fun c => wq (ix2 c j))

/-- The keys' and values' features of the tile. -/
def tkv (a : Fin 512) (j : Fin 2048) : EReal :=
  up (Ideal.ofBits .f32 0x43800000#32) (fun d : Fin 256 => tlat x g win a ⟨384 + d, by omega⟩) (fun d => kn (ix2 0 d)) (fun c => wk (ix2 c j))

/-- A row of 128 lanes times cosines, plus the row with its 32-lane quarters exchanged in pairs times sines. -/
def turned (f c s : Fin 128 → EReal) (l : Fin 128) : EReal :=
  f l * c l + (if l.val % 64 < 32 then f ⟨(l + 128 - 96) % 128, Nat.mod_lt _ (by decide)⟩ else f ⟨(l + 128 - 32) % 128, Nat.mod_lt _ (by decide)⟩) * s l

/-- The queries' array of the tile. -/
def tq (a : Fin 512) (l : Fin 2048) : EReal :=
  if l.val % 256 < 128 then tqry x g win qn wq a ⟨l / 256 * 128 + l % 256 % 128, by omega⟩
  else if l.val % 256 < 192 then turned (fun k => tqry x g win qn wq a ⟨1024 + l / 512 * 128 + k, by omega⟩) (fun k => rc (ix2 a k)) (fun k => rs (ix2 a k))
    ⟨l / 256 % 2 * 64 + l % 64, by omega⟩
  else 0

/-- The projected block at an element. -/
theorem tlat_apply (a : Fin 512) (j : Fin 1792) : k0_pay1 (F := Ideal) x g win (ix2 a j) = tlat x g win a j := by
  pointwise [k0_pay1]
  rfl

/-- The block of queries' features at an element. -/
theorem tqry_apply (a : Fin 512) (j : Fin 1536) :
    k0_pay10 (F := Ideal) (k0_pay6 x g win) (k0_pay7 qn) (k0_pay8 x g win) k0_pay9 wq (ix2 a j) = tqry x g win qn wq a j := by
  unfold tqry
  simp only [← tlat_apply]
  pointwise [k0_pay10, k0_pay6, k0_pay7, k0_pay8, k0_pay9]
  rfl

/-- The block of keys' and values' features at an element. -/
theorem tkv_apply (a : Fin 512) (j : Fin 2048) :
    k0_pay35 (F := Ideal) (k0_pay32 (k0_pay1 x g win)) (k0_pay33 kn) (k0_pay34 (k0_pay1 x g win)) wk (ix2 a j) = tkv x g win kn wk a j := by
  unfold tkv
  simp only [← tlat_apply]
  pointwise [k0_pay35, k0_pay32, k0_pay33, k0_pay34]
  rfl

/-- The mask of the first 32 of every 64 lanes. -/
theorem low_apply (a : Fin 512) (l : Fin 128) : k0_pay4 (ix2 a l) = if l.val % 64 < 32 then 1#1 else 0#1 := by
  pointwise [k0_pay4]
  revert l
  decide

/-- The mask of the first 64 lanes. -/
theorem left_apply (a : Fin 512) (l : Fin 128) : k0_pay5 (ix2 a l) = if l.val < 64 then 1#1 else 0#1 := by
  pointwise [k0_pay5]
  revert l
  decide

/-- A choice by a mask's bit. -/
theorem select_bit (p : Prop) [Decidable p] (u v : EReal) : Scalar.select (if p then 1#1 else 0#1) u v = if p then u else v := by
  by_cases h : p
  · rw [if_pos h, if_pos h]; rfl
  · rw [if_neg h, if_neg h]; rfl

variable (q : Vec Ideal S512x1536 .f32) (p : Vec Ideal S512x1792 .f32)

/-- The first pair of heads, rotated. -/
theorem pair0 (a : Fin 512) (l : Fin 128) : k0_pay19 (F := Ideal) rc rs k0_pay4 q (ix2 a l)
    = turned (fun k => q (ix2 a ⟨1024 + k, by omega⟩)) (fun k => rc (ix2 a k)) (fun k => rs (ix2 a k)) l := by
  pointwise [k0_pay19]
  rw [low_apply, select_bit]
  rfl

/-- The second pair of heads, rotated. -/
theorem pair1 (a : Fin 512) (l : Fin 128) : k0_pay22 (F := Ideal) rc rs k0_pay4 q (ix2 a l)
    = turned (fun k => q (ix2 a ⟨1152 + k, by omega⟩)) (fun k => rc (ix2 a k)) (fun k => rs (ix2 a k)) l := by
  pointwise [k0_pay22]
  rw [low_apply, select_bit]
  rfl

/-- The third pair of heads, rotated. -/
theorem pair2 (a : Fin 512) (l : Fin 128) : k0_pay26 (F := Ideal) rc rs k0_pay4 (k0_pay25 q) 96#32 (ix2 a l)
    = turned (fun k => q (ix2 a ⟨1280 + k, by omega⟩)) (fun k => rc (ix2 a k)) (fun k => rs (ix2 a k)) l := by
  pointwise [k0_pay26, k0_pay25]
  rw [low_apply, select_bit]
  rfl

/-- The fourth pair of heads, rotated. -/
theorem pair3 (a : Fin 512) (l : Fin 128) : k0_pay29 (F := Ideal) rc rs k0_pay4 q (ix2 a l)
    = turned (fun k => q (ix2 a ⟨1408 + k, by omega⟩)) (fun k => rc (ix2 a k)) (fun k => rs (ix2 a k)) l := by
  pointwise [k0_pay29]
  rw [low_apply, select_bit]
  rfl

/-- The left head of a pair, as it is stored. -/
def leftHead (f c s : Fin 128 → EReal) (k : Fin 128) : EReal := if k.val < 64 then turned f c s k else 0

/-- The right head of a pair, as it is stored: moved to the left. -/
def rightHead (f c s : Fin 128 → EReal) (k : Fin 128) : EReal :=
  if k.val < 64 then turned f c s ⟨(k + 128 - 64) % 128, Nat.mod_lt _ (by decide)⟩ else 0

theorem left0 (a : Fin 512) (l : Fin 128) : k0_pay20 (F := Ideal) rc rs k0_pay4 k0_pay5 q (ix2 a l)
    = leftHead (fun k => q (ix2 a ⟨1024 + k, by omega⟩)) (fun k => rc (ix2 a k)) (fun k => rs (ix2 a k)) l := by
  pointwise [k0_pay20]
  rw [left_apply, select_bit, pair0]
  rfl

theorem right0 (a : Fin 512) (l : Fin 128) : k0_pay21 (F := Ideal) rc rs k0_pay4 k0_pay5 q (ix2 a l)
    = rightHead (fun k => q (ix2 a ⟨1024 + k, by omega⟩)) (fun k => rc (ix2 a k)) (fun k => rs (ix2 a k)) l := by
  pointwise [k0_pay21]
  rw [left_apply, select_bit, pair0]
  rfl

theorem left1 (a : Fin 512) (l : Fin 128) : k0_pay23 (F := Ideal) rc rs k0_pay4 k0_pay5 q (ix2 a l)
    = leftHead (fun k => q (ix2 a ⟨1152 + k, by omega⟩)) (fun k => rc (ix2 a k)) (fun k => rs (ix2 a k)) l := by
  pointwise [k0_pay23]
  rw [left_apply, select_bit, pair1]
  rfl

theorem right1 (a : Fin 512) (l : Fin 128) : k0_pay24 (F := Ideal) rc rs k0_pay4 k0_pay5 q (ix2 a l)
    = rightHead (fun k => q (ix2 a ⟨1152 + k, by omega⟩)) (fun k => rc (ix2 a k)) (fun k => rs (ix2 a k)) l := by
  pointwise [k0_pay24]
  rw [left_apply, select_bit, pair1]
  rfl

theorem left2 (a : Fin 512) (l : Fin 128) : k0_pay27 (F := Ideal) rc rs k0_pay4 k0_pay5 (k0_pay25 q) 96#32 (ix2 a l)
    = leftHead (fun k => q (ix2 a ⟨1280 + k, by omega⟩)) (fun k => rc (ix2 a k)) (fun k => rs (ix2 a k)) l := by
  pointwise [k0_pay27]
  rw [left_apply, select_bit, pair2]
  rfl

theorem right2 (a : Fin 512) (l : Fin 128) : k0_pay28 (F := Ideal) rc rs k0_pay4 k0_pay5 (k0_pay25 q) 96#32 (ix2 a l)
    = rightHead (fun k => q (ix2 a ⟨1280 + k, by omega⟩)) (fun k => rc (ix2 a k)) (fun k => rs (ix2 a k)) l := by
  pointwise [k0_pay28]
  rw [left_apply, select_bit, pair2]
  rfl

theorem left3 (a : Fin 512) (l : Fin 128) : k0_pay30 (F := Ideal) rc rs k0_pay4 k0_pay5 q (ix2 a l)
    = leftHead (fun k => q (ix2 a ⟨1408 + k, by omega⟩)) (fun k => rc (ix2 a k)) (fun k => rs (ix2 a k)) l := by
  pointwise [k0_pay30]
  rw [left_apply, select_bit, pair3]
  rfl

theorem right3 (a : Fin 512) (l : Fin 128) : k0_pay31 (F := Ideal) rc rs k0_pay4 k0_pay5 q (ix2 a l)
    = rightHead (fun k => q (ix2 a ⟨1408 + k, by omega⟩)) (fun k => rc (ix2 a k)) (fun k => rs (ix2 a k)) l := by
  pointwise [k0_pay31]
  rw [left_apply, select_bit, pair3]
  rfl

/-- The shared key's block at an element. -/
theorem shared_apply (a : Fin 512) (l : Fin 128) : k0_pay38 (F := Ideal) p rc rs k0_pay4 k0_pay5 (ix2 a l)
    = leftHead (fun k => p (ix2 a ⟨640 + k, by omega⟩)) (fun k => rc (ix2 a k)) (fun k => rs (ix2 a k)) l := by
  pointwise [k0_pay38]
  rw [left_apply, select_bit, low_apply, select_bit]
  rfl

/-- The gates' block at an element. -/
theorem gate_apply (a : Fin 512) (l : Fin 1024) : k0_pay39 (F := Ideal) p (ix2 a l)
    = Ideal.div (p (ix2 a ⟨768 + l, by omega⟩)) (1 + Ideal.exp (0 - p (ix2 a ⟨768 + l, by omega⟩))) := by
  pointwise [k0_pay39]

/-- The part of a query that is not rotated, at an element: head `h` takes 128 features. -/
theorem plain_apply (a : Fin 512) (k : Fin 128) :
    k0_pay11 (F := Ideal) (k0_pay6 x g win) (k0_pay7 qn) (k0_pay8 x g win) k0_pay9 wq (ix2 a k) = tqry x g win qn wq a ⟨0 + k, by omega⟩
    ∧ k0_pay12 (F := Ideal) (k0_pay6 x g win) (k0_pay7 qn) (k0_pay8 x g win) k0_pay9 wq (ix2 a k) = tqry x g win qn wq a ⟨128 + k, by omega⟩
    ∧ k0_pay13 (F := Ideal) (k0_pay6 x g win) (k0_pay7 qn) (k0_pay8 x g win) k0_pay9 wq (ix2 a k) = tqry x g win qn wq a ⟨256 + k, by omega⟩
    ∧ k0_pay14 (F := Ideal) (k0_pay6 x g win) (k0_pay7 qn) (k0_pay8 x g win) k0_pay9 wq (ix2 a k) = tqry x g win qn wq a ⟨384 + k, by omega⟩
    ∧ k0_pay15 (F := Ideal) (k0_pay6 x g win) (k0_pay7 qn) (k0_pay8 x g win) k0_pay9 wq (ix2 a k) = tqry x g win qn wq a ⟨512 + k, by omega⟩
    ∧ k0_pay16 (F := Ideal) (k0_pay6 x g win) (k0_pay7 qn) (k0_pay8 x g win) k0_pay9 wq (ix2 a k) = tqry x g win qn wq a ⟨640 + k, by omega⟩
    ∧ k0_pay17 (F := Ideal) (k0_pay6 x g win) (k0_pay7 qn) (k0_pay8 x g win) k0_pay9 wq (ix2 a k) = tqry x g win qn wq a ⟨768 + k, by omega⟩
    ∧ k0_pay18 (F := Ideal) (k0_pay6 x g win) (k0_pay7 qn) (k0_pay8 x g win) k0_pay9 wq (ix2 a k) = tqry x g win qn wq a ⟨896 + k, by omega⟩ := by
  simp only [← tqry_apply]
  refine ⟨?_, ?_, ?_, ?_, ?_, ?_, ?_, ?_⟩
  · pointwise [k0_pay11]
  · pointwise [k0_pay12]
  · pointwise [k0_pay13]
  · pointwise [k0_pay14]
  · pointwise [k0_pay15]
  · pointwise [k0_pay16]
  · pointwise [k0_pay17]
  · pointwise [k0_pay18]

/-- The keys' block at an element. -/
theorem key_apply (a : Fin 512) (l : Fin 1024) :
    k0_pay36 (F := Ideal) (k0_pay32 (k0_pay1 x g win)) (k0_pay33 kn) (k0_pay34 (k0_pay1 x g win)) wk (ix2 a l) = tkv x g win kn wk a ⟨l, by omega⟩ := by
  simp only [← tkv_apply]
  pointwise [k0_pay36]

/-- The values' block at an element. -/
theorem value_apply (a : Fin 512) (l : Fin 1024) :
    k0_pay37 (F := Ideal) (k0_pay32 (k0_pay1 x g win)) (k0_pay33 kn) (k0_pay34 (k0_pay1 x g win)) wk (ix2 a l) = tkv x g win kn wk a ⟨1024 + l, by omega⟩ := by
  simp only [← tkv_apply]
  pointwise [k0_pay37]

end Cert.FrontTile

end
-- ==== Proof.FrontOut.lean ====
/-
  The block of queries a grid point of the front leaves. It is stored in sixteen pieces of 128 lanes: two for each of
  the eight heads, the part that is not rotated and the rotated part with zeros after it.
-/
module

public import proofs.«01_k».proof.Proof.FrontTile
public import Idealize.ShloMosaic.Lib.Pipeline.ValueKit
public import Idealize.ShloMosaic.Lib.Pipeline.ReadBack
public import Idealize.ShloMosaic.Lib.WholeRead

@[expose] public section

set_option maxRecDepth 16384

noncomputable section

namespace Cert.FrontOut

open Idealize.ShloMosaic Cert.FrontIdeal Cert.FrontIdeal.Gen Cert.FrontTile

variable (x : Vec Ideal S512x1024 .f32) (g : Vec Ideal S1x1024 .f32) (win : Vec Ideal S1024x1792 .bf16) (qn : Vec Ideal S1x384 .f32)
  (wq : Vec Ideal S384x1536 .bf16) (kn : Vec Ideal S1x256 .f32) (wk : Vec Ideal S256x2048 .bf16) (rc rs : Vec Ideal S512x128 .f32)

/-- The block of queries as an array. -/
def whole : Vec Ideal S512x2048 .bf16 := fun y => tq x g win qn wq rc rs (y 0) (y 1)

/-- Where a piece's element lies in the block. -/
theorem emb_eq (o : Nat) (ho : o + 128 ≤ 2048) (hx) (a : Fin 512) (k : Fin 128) :
    (Rect.unit (s := S512x2048) ![0, o] S512x128.size hx).emb (ix2 a k) = ix2 a (⟨o + k, by omega⟩ : Fin 2048) := by
  funext i
  refine Fin.ext ?_
  rw [ValueKit.rect_emb_unit_val]
  fin_cases i
  · show 0 + a.val = a.val
    omega
  · rfl

/-- A piece that is not rotated. -/
theorem plain_piece (P : Vec Ideal S512x128 .bf16) (h : Nat) (hh : h < 8) (o : Nat) (ho : o = h * 256) (hx)
    (hP : ∀ (a : Fin 512) (k : Fin 128), P (ix2 a k) = tqry x g win qn wq a ⟨h * 128 + k, by omega⟩) (y) :
    P y = whole x g win qn wq rc rs ((Rect.unit (s := S512x2048) ![0, o] S512x128.size hx).emb y) := by
  obtain ⟨a, k, rfl⟩ : ∃ (a : Fin 512) (k : Fin 128), y = ix2 a k := ⟨y 0, y 1, eq_ix2 y⟩
  rw [emb_eq o (by omega), hP]
  show _ = tq x g win qn wq rc rs a (⟨o + k, by omega⟩ : Fin 2048)
  unfold tq
  rw [if_pos (show (o + k.val) % 256 < 128 by omega)]
  refine congrArg _ (Fin.ext ?_)
  show h * 128 + k.val = (o + k.val) / 256 * 128 + (o + k.val) % 256 % 128
  omega

/-- A piece of a rotated left head. -/
theorem left_piece (P : Vec Ideal S512x128 .bf16) (p : Nat) (hp : p < 4) (o : Nat) (ho : o = p * 512 + 128) (hx)
    (hP : ∀ (a : Fin 512) (k : Fin 128), P (ix2 a k)
      = leftHead (fun k => tqry x g win qn wq a ⟨1024 + p * 128 + k, by omega⟩) (fun k => rc (ix2 a k)) (fun k => rs (ix2 a k)) k) (y) :
    P y = whole x g win qn wq rc rs ((Rect.unit (s := S512x2048) ![0, o] S512x128.size hx).emb y) := by
  obtain ⟨a, k, rfl⟩ : ∃ (a : Fin 512) (k : Fin 128), y = ix2 a k := ⟨y 0, y 1, eq_ix2 y⟩
  rw [emb_eq o (by omega), hP]
  show _ = tq x g win qn wq rc rs a (⟨o + k, by omega⟩ : Fin 2048)
  unfold tq leftHead
  rw [if_neg (show ¬ (o + k.val) % 256 < 128 by omega)]
  by_cases hk : k.val < 64
  · rw [if_pos hk, if_pos (show (o + k.val) % 256 < 192 by omega)]
    have e1 : (o + k.val) / 512 = p := by omega
    have e2 : (o + k.val) / 256 % 2 * 64 + (o + k.val) % 64 = k.val := by omega
    simp only [e1, e2]
  · rw [if_neg hk, if_neg (show ¬ (o + k.val) % 256 < 192 by omega)]

/-- A piece of a rotated right head. -/
theorem right_piece (P : Vec Ideal S512x128 .bf16) (p : Nat) (hp : p < 4) (o : Nat) (ho : o = p * 512 + 384) (hx)
    (hP : ∀ (a : Fin 512) (k : Fin 128), P (ix2 a k)
      = rightHead (fun k => tqry x g win qn wq a ⟨1024 + p * 128 + k, by omega⟩) (fun k => rc (ix2 a k)) (fun k => rs (ix2 a k)) k) (y) :
    P y = whole x g win qn wq rc rs ((Rect.unit (s := S512x2048) ![0, o] S512x128.size hx).emb y) := by
  obtain ⟨a, k, rfl⟩ : ∃ (a : Fin 512) (k : Fin 128), y = ix2 a k := ⟨y 0, y 1, eq_ix2 y⟩
  rw [emb_eq o (by omega), hP]
  show _ = tq x g win qn wq rc rs a (⟨o + k, by omega⟩ : Fin 2048)
  unfold tq rightHead
  rw [if_neg (show ¬ (o + k.val) % 256 < 128 by omega)]
  by_cases hk : k.val < 64
  · rw [if_pos hk, if_pos (show (o + k.val) % 256 < 192 by omega)]
    have e1 : (o + k.val) / 512 = p := by omega
    have e2 : (o + k.val) / 256 % 2 * 64 + (o + k.val) % 64 = (k.val + 128 - 64) % 128 := by omega
    simp only [e1, e2]
  · rw [if_neg hk, if_neg (show ¬ (o + k.val) % 256 < 192 by omega)]

/-- The cosines are taken as they are. -/
theorem cos_id : k0_pay2 (F := Ideal) rc = rc := funext fun y => by
  obtain ⟨a, k, rfl⟩ : ∃ (a : Fin 512) (k : Fin 128), y = ix2 a k := ⟨y 0, y 1, eq_ix2 y⟩
  pointwise [k0_pay2]

/-- The sines are taken as they are. -/
theorem sin_id : k0_pay3 (F := Ideal) rs = rs := funext fun y => by
  obtain ⟨a, k, rfl⟩ : ∃ (a : Fin 512) (k : Fin 128), y = ix2 a k := ⟨y 0, y 1, eq_ix2 y⟩
  pointwise [k0_pay3]

set_option maxHeartbeats 800000 in
/-- The block a grid point leaves. -/
theorem out_eq (y : S512x2048.Idx) : out0_9 (F := Ideal) x g win qn wq kn wk rc rs y = whole x g win qn wq rc rs y := by
  unfold_out out0_9
  simp (disch := decide) only [View.ld_unit_lit']
  simp only [cos_id, sin_id]
  have hq := tqry_apply x g win qn wq
  refine View.canon_apply_of_pieces (Val := Elt Ideal) (whole x g win qn wq rc rs) _ ?_ y ?_
  · refine View.PiecesOf.mem ?_
    exact ⟨right_piece x g win qn wq rc rs _ 3 (by decide) 1920 rfl inb_S512x2048_S512x128_0_1920 (fun a k => (right3 rc rs _ a k).trans (by simp only [hq])),
      left_piece x g win qn wq rc rs _ 3 (by decide) 1664 rfl inb_S512x2048_S512x128_0_1664 (fun a k => (left3 rc rs _ a k).trans (by simp only [hq])),
      right_piece x g win qn wq rc rs _ 2 (by decide) 1408 rfl inb_S512x2048_S512x128_0_1408 (fun a k => (right2 rc rs _ a k).trans (by simp only [hq])),
      left_piece x g win qn wq rc rs _ 2 (by decide) 1152 rfl inb_S512x2048_S512x128_0_1152 (fun a k => (left2 rc rs _ a k).trans (by simp only [hq])),
      right_piece x g win qn wq rc rs _ 1 (by decide) 896 rfl inb_S512x2048_S512x128_0_896 (fun a k => (right1 rc rs _ a k).trans (by simp only [hq])),
      left_piece x g win qn wq rc rs _ 1 (by decide) 640 rfl inb_S512x2048_S512x128_0_640 (fun a k => (left1 rc rs _ a k).trans (by simp only [hq])),
      right_piece x g win qn wq rc rs _ 0 (by decide) 384 rfl inb_S512x2048_S512x128_0_384 (fun a k => (right0 rc rs _ a k).trans (by simp only [hq])),
      left_piece x g win qn wq rc rs _ 0 (by decide) 128 rfl inb_S512x2048_S512x128_0_128 (fun a k => (left0 rc rs _ a k).trans (by simp only [hq])),
      plain_piece x g win qn wq rc rs _ 7 (by decide) 1792 rfl inb_S512x2048_S512x128_0_1792 (fun a k => (plain_apply x g win qn wq a k).2.2.2.2.2.2.2),
      plain_piece x g win qn wq rc rs _ 6 (by decide) 1536 rfl inb_S512x2048_S512x128_0_1536 (fun a k => (plain_apply x g win qn wq a k).2.2.2.2.2.2.1),
      plain_piece x g win qn wq rc rs _ 5 (by decide) 1280 rfl inb_S512x2048_S512x128_0_1280 (fun a k => (plain_apply x g win qn wq a k).2.2.2.2.2.1),
      plain_piece x g win qn wq rc rs _ 4 (by decide) 1024 rfl inb_S512x2048_S512x128_0_1024 (fun a k => (plain_apply x g win qn wq a k).2.2.2.2.1),
      plain_piece x g win qn wq rc rs _ 3 (by decide) 768 rfl inb_S512x2048_S512x128_0_768 (fun a k => (plain_apply x g win qn wq a k).2.2.2.1),
      plain_piece x g win qn wq rc rs _ 2 (by decide) 512 rfl inb_S512x2048_S512x128_0_512 (fun a k => (plain_apply x g win qn wq a k).2.2.1),
      plain_piece x g win qn wq rc rs _ 1 (by decide) 256 rfl inb_S512x2048_S512x128_0_256 (fun a k => (plain_apply x g win qn wq a k).2.1),
      plain_piece x g win qn wq rc rs _ 0 (by decide) 0 rfl inb_S512x2048_S512x128_0_0 (fun a k => (plain_apply x g win qn wq a k).1), trivial⟩
  · exact View.cover_of_tiledL _ ![512, 128] rfl y

end Cert.FrontOut

end
-- ==== Proof.FrontHost.lean ====
/-
  What the host prepares for the front, at one element: the projection weights with 64 columns of zeros put in, the
  queries' weights scaled and reordered, the keys' and values' weights reordered, and the tables of cosines and sines.
-/
module

public import Idealize.ShloMosaic.Lib.Pointwise
public import Idealize.ShloMosaic.Lib.IdealHost
public import Idealize.ShloMosaic.Lib.StableHlo.ReadAt
public import proofs.«01_k».proof.Proof.FrontRef
public import proofs.«01_k».proof.Proof.Gen.FrontIdeal.Frame

@[expose] public section

set_option maxRecDepth 16384

noncomputable section

namespace Cert.FrontHost

open Idealize.ShloMosaic Idealize.SL.Sem Cert.FrontIdeal Cert.FrontIdeal.Gen
open Cert.FrontRef (cs sn)
open Cert.FrontReferenceIdeal.Read (val_main_v50 val_main_v51 val_main_v52 val_main_v53 val_main_v54 val_main_v55 val_main_v56 val_main_v57 val_main_v58
  val_main_v59 val_main_v60 val_main_v61 val_main_v62 val_main_v63 val_main_v64 val_main_v65 val_main_v66 val_main_v67 val_main_v68
  val_main_cst_9 val_main_cst_10 val_main_cst_11 val_main_cst_12 val_main_cst_13)

variable (m : (ℓ : Loc nD τ sig) → Buf (Elt Ideal) ℓ)

/-- The residual stream. -/
def a0 (c : Dev nD) : Vec Ideal Cert.FrontReferenceIdeal.S32x2048x1024 .f32 := m ((c.tc : Thread nD τ).loc main_arg0)

/-- The gains of the first norm. -/
def a1 (c : Dev nD) : Vec Ideal Cert.FrontReferenceIdeal.S1024 .f32 := m ((c.tc : Thread nD τ).loc main_arg1)

/-- The weights of the projection. -/
def a2 (c : Dev nD) : Vec Ideal Cert.FrontReferenceIdeal.S1024x1728 .f32 := m ((c.tc : Thread nD τ).loc main_arg2)

/-- The gains of the queries' norm. -/
def a3 (c : Dev nD) : Vec Ideal Cert.FrontReferenceIdeal.S384 .f32 := m ((c.tc : Thread nD τ).loc main_arg3)

/-- The weights of the queries. -/
def a4 (c : Dev nD) : Vec Ideal Cert.FrontReferenceIdeal.S384x1536 .f32 := m ((c.tc : Thread nD τ).loc main_arg4)

/-- The gains of the keys' norm. -/
def a5 (c : Dev nD) : Vec Ideal Cert.FrontReferenceIdeal.S256 .f32 := m ((c.tc : Thread nD τ).loc main_arg5)

/-- The weights of keys and values. -/
def a6 (c : Dev nD) : Vec Ideal Cert.FrontReferenceIdeal.S256x2048 .f32 := m ((c.tc : Thread nD τ).loc main_arg6)

/-- The prepared weights of the projection. -/
theorem win_apply (c : Dev nD) (k : Fin 1024) (j : Fin 1792) : (V m c main_v5 (ix2 k j) : EReal)
    = if h : j.val < 704 then a2 m c (ix2 k ⟨j, by omega⟩) else if h' : j.val < 768 then 0 else a2 m c (ix2 k ⟨j - 64, by omega⟩) := by
  unfold V a2
  after_reads_at
  after_reads_at
  by_cases h : j.val < 704
  · rw [dif_pos h, dif_pos h]
  · rw [dif_neg h, dif_neg h]
    by_cases h' : j.val < 768
    · rw [dif_pos h', dif_pos (by omega)]
    · have e : 704 + (j.val - 704 - 64) = j.val - 64 := by omega
      rw [dif_neg h', dif_neg (by omega)]
      simp only [e]

/-- The prepared weights of the queries. -/
theorem wq_apply (c : Dev nD) (k : Fin 384) (j : Fin 1536) : (V m c main_v14 (ix2 k j) : EReal)
    = if h : j.val < 1024 then a4 m c (ix2 k ⟨j / 128 * 192 + j % 128, by omega⟩) * Ideal.ofBits .f32 0x3DD53B95#32
      else a4 m c (ix2 k ⟨(j - 1024) / 64 * 192 + (128 + (j - 1024) % 64), by omega⟩) * Ideal.ofBits .f32 0x3DD53B95#32 := by
  unfold V a4
  after_reads_at
  after_reads_at

/-- The prepared weights of keys and values. -/
theorem wk_apply (c : Dev nD) (k : Fin 256) (j : Fin 2048) : (V m c main_v21 (ix2 k j) : EReal)
    = if h : j.val < 1024 then a6 m c (ix2 k ⟨j / 128 * 256 + j % 128, by omega⟩)
      else a6 m c (ix2 k ⟨(j - 1024) / 128 * 256 + (128 + (j - 1024) % 128), by omega⟩) := by
  unfold V a6
  after_reads_at
  after_reads_at

/-- The table of cosines: the 32 cosines of a token four times. -/
theorem rc_apply (c : Dev nD) (s : Fin 2048) (l : Fin 128) : (V m c main_v41 (ix2 s l) : EReal) = cs s ⟨l % 32, by omega⟩ := by
  unfold V cs
  after_reads_at
  after_reads_at
  pointwise [val_main_v50, val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_cst_9, val_main_cst_10,
    val_main_cst_11, val_main_cst_12, val_main_cst_13]
  by_cases h0 : l.val < 32
  · rw [dif_pos h0, Nat.mod_eq_of_lt h0]
  · rw [dif_neg h0]
    by_cases h1 : l.val - 32 < 32
    · rw [dif_pos h1, show l.val % 32 = l.val - 32 by omega]
    · rw [dif_neg h1]
      by_cases h2 : l.val - 32 - 32 < 32
      · rw [dif_pos h2, show l.val % 32 = l.val - 32 - 32 by omega]
      · rw [dif_neg h2, show l.val % 32 = l.val - 32 - 32 - 32 by omega]

/-- The table of sines: the 32 sines of a token four times, every other time negated. -/
theorem rs_apply (c : Dev nD) (s : Fin 2048) (l : Fin 128) : (V m c main_v44 (ix2 s l) : EReal)
   = if l.val % 64 < 32 then -(sn s ⟨l % 32, by omega⟩) else sn s ⟨l % 32, by omega⟩ := by
  unfold V sn
  after_reads_at
  after_reads_at
  pointwise [val_main_v50, val_main_v51, val_main_v52, val_main_v53, val_main_v54, val_main_v55, val_main_v56, val_main_v57, val_main_v58, val_main_v59,
    val_main_v60, val_main_v61, val_main_v62, val_main_v63, val_main_v64, val_main_v65, val_main_v66, val_main_v68, val_main_cst_9, val_main_cst_10,
    val_main_cst_11, val_main_cst_12, val_main_cst_13]
  by_cases h0 : l.val < 32
  · rw [dif_pos h0, if_pos (by omega), Nat.mod_eq_of_lt h0]
  · rw [dif_neg h0]
    by_cases h1 : l.val - 32 < 32
    · rw [dif_pos h1, if_neg (by omega), show l.val % 32 = l.val - 32 by omega]
    · rw [dif_neg h1]
      by_cases h2 : l.val - 32 - 32 < 32
      · rw [dif_pos h2, if_pos (by omega), show l.val % 32 = l.val - 32 - 32 by omega]
      · rw [dif_neg h2, if_neg (by omega), show l.val % 32 = l.val - 32 - 32 - 32 by omega]

/-- The tokens' rows. -/
theorem x_apply (c : Dev nD) (i : Fin 65536) (l : Fin 1024) : (V m c main_v0 (ix2 i l) : EReal)
    = a0 m c (ix3 (⟨i / 2048, by omega⟩ : Fin 32) (⟨i % 2048, by omega⟩ : Fin 2048) l) := by
  unfold V a0
  after_reads_at

/-- The row of gains of the first norm. -/
theorem g_apply (c : Dev nD) (l : Fin 1024) : (V m c main_v45 (ix2 0 l) : EReal) = a1 m c (ix1 l) := by
  unfold V a1
  after_reads_at

/-- The row of gains of the queries' norm. -/
theorem qn_apply (c : Dev nD) (l : Fin 384) : (V m c main_v46 (ix2 0 l) : EReal) = a3 m c (ix1 l) := by
  unfold V a3
  after_reads_at

/-- The row of gains of the keys' norm. -/
theorem kn_apply (c : Dev nD) (l : Fin 256) : (V m c main_v47 (ix2 0 l) : EReal) = a5 m c (ix1 l) := by
  unfold V a5
  after_reads_at

end Cert.FrontHost

end
-- ==== Proof.FrontMatch.lean ====
/-
  The front's tile against the reference: what a grid point computes from the prepared weights and tables is what the
  reference computes from the arguments, up to the order of the features.
-/
module

public import Idealize.ShloMosaic.Lib.Pointwise
public import Idealize.ShloMosaic.Lib.Pipeline.ValueKit
public import proofs.«01_k».proof.Proof.Softmax
public import proofs.«01_k».proof.Proof.FrontHost
public import proofs.«01_k».proof.Proof.FrontTile

@[expose] public section

set_option maxRecDepth 16384

noncomputable section

namespace Cert.FrontMatch

open Idealize.ShloMosaic Idealize.SL.Sem Cert.FrontIdeal Cert.FrontIdeal.Gen
open Cert.FrontRef (up rms rope silu lat qry kv cs sn)
open Cert.FrontHost Cert.FrontTile

/-- The queries' scale is a nonnegative real. -/
theorem scale_real : ∃ r : ℝ, 0 ≤ r ∧ Ideal.ofBits .f32 0x3DD53B95#32 = (r : EReal) := by
  refine ⟨(13974421 : ℝ) * 2 ^ (-27 : ℤ), by positivity, ?_⟩
  simp [Ideal.ofBits, Ideal.ieee]

/-- A scale in the weights is a scale of the features. -/
theorem up_scaled {n : Nat} (K : EReal) (x g w : Fin n → EReal) :
    up K x g (fun c => w c * Ideal.ofBits .f32 0x3DD53B95#32) = up K x g w * Ideal.ofBits .f32 0x3DD53B95#32 := by
  obtain ⟨r, hr, e⟩ := scale_real
  unfold up
  rw [e, Softmax.sum_mul _ _ _ hr]
  simp only [mul_assoc]

/-- The kernel's rotation of 128 lanes rotates each half of 64. -/
theorem turned_eq (f c s : Fin 128 → EReal) (u v : Fin 32 → EReal) (hc : ∀ l, c l = u ⟨l % 32, by omega⟩)
    (hs : ∀ l : Fin 128, s l = if l.val % 64 < 32 then -(v ⟨l % 32, by omega⟩) else v ⟨l % 32, by omega⟩)
    (l : Fin 128) (j : Fin 64) (p : Nat) (hp : p < 2) (hl : l.val = p * 64 + j.val) :
    turned f c s l = rope (fun j => f ⟨p * 64 + j, by omega⟩) u v j := by
  unfold turned rope
  rw [hc, hs]
  have e0 : l = ⟨p * 64 + j, by omega⟩ := Fin.ext hl
  by_cases h : j.val < 32
  · rw [dif_pos h, if_pos (show l.val % 64 < 32 by omega), if_pos (show l.val % 64 < 32 by omega)]
    have e1 : (⟨l.val % 32, by omega⟩ : Fin 32) = ⟨j, h⟩ := Fin.ext (by show l.val % 32 = j.val; omega)
    have e2 : (⟨(l.val + 128 - 96) % 128, Nat.mod_lt _ (by decide)⟩ : Fin 128) = ⟨p * 64 + (j + 32), by omega⟩ :=
      Fin.ext (by show (l.val + 128 - 96) % 128 = p * 64 + (j.val + 32); omega)
    rw [e1, e2, mul_neg, ← sub_eq_add_neg]
    simp only [e0]
  · rw [dif_neg h, if_neg (show ¬ l.val % 64 < 32 by omega), if_neg (show ¬ l.val % 64 < 32 by omega)]
    have e1 : (⟨l.val % 32, by omega⟩ : Fin 32) = ⟨j - 32, by omega⟩ := Fin.ext (by show l.val % 32 = j.val - 32; omega)
    have e2 : (⟨(l.val + 128 - 32) % 128, Nat.mod_lt _ (by decide)⟩ : Fin 128) = ⟨p * 64 + (j - 32), by omega⟩ :=
      Fin.ext (by show (l.val + 128 - 32) % 128 = p * 64 + (j.val - 32); omega)
    rw [e1, e2, add_comm]
    simp only [e0]

/-- The kernel's gate is the reference's. -/
theorem silu_eq (y : EReal) : Ideal.div y (1 + Ideal.exp (0 - y)) = silu y := by
  unfold silu
  rw [zero_sub]
  have hp : (0 : EReal) ≤ Ideal.exp (-y) := by
    induction (-y) using EReal.rec with
    | bot => exact le_refl _
    | coe r => exact EReal.coe_nonneg.mpr (Real.exp_pos r).le
    | top => exact le_top
  have h : (1 + Ideal.exp (-y) : EReal) ≠ 0 := (lt_of_lt_of_le (by norm_num) (le_add_of_nonneg_right hp) : (0 : EReal) < 1 + Ideal.exp (-y)).ne'
  unfold Ideal.div
  rw [if_neg h, if_neg h, one_mul]

variable (m : (ℓ : Loc nD τ sig) → Buf (Elt Ideal) ℓ)

/-- Which blocks the inputs' windows take at a grid point. -/
theorem index_eq : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 4, 0] ∧ win0_8.index t = ![t.val % 4, 0] := by
  decide +kernel

/-- The token of a row of a grid point. -/
def token (t : Fin cfg0.N) (a : Fin 512) : Fin 65536 := ⟨t.val * 512 + a, by have : t.val < 128 := t.isLt; omega⟩

/-- The sequence of a row of a grid point. -/
def seq (t : Fin cfg0.N) (a : Fin 512) : Fin 32 := ⟨token t a / 2048, by omega⟩

/-- The position of a row of a grid point. -/
def pos (t : Fin cfg0.N) (a : Fin 512) : Fin 2048 := ⟨token t a % 2048, by omega⟩

/-- The rows of a grid point. -/
theorem x_block (c : Dev nD) (t : Fin cfg0.N) (a : Fin 512) (d : Fin 1024) : (iblk m c 0 t (ix2 a d) : EReal) = a0 m c (ix3 (seq t a) (pos t a) d) := by
  have hi := (index_eq t).1
  refine Eq.trans (b := (V m c main_v0 (ix2 (token t a) d) : EReal)) ?_ (x_apply m c _ _)
  unfold token
  blk_ext [iblk, hi]

/-- The first norm's gains of a grid point. -/
theorem g_block (c : Dev nD) (t : Fin cfg0.N) (d : Fin 1024) : (iblk m c 1 t (ix2 0 d) : EReal) = a1 m c (ix1 d) := by
  have hi := (index_eq t).2.1
  refine Eq.trans (b := (V m c main_v45 (ix2 0 d) : EReal)) ?_ (g_apply m c _)
  blk_ext! [iblk, hi]

/-- The projection's weights of a grid point. -/
theorem win_block (c : Dev nD) (t : Fin cfg0.N) (k : Fin 1024) (j : Fin 1792) : (iblk m c 2 t (ix2 k j) : EReal) = V m c main_v5 (ix2 k j) := by
  have hi := (index_eq t).2.2.1
  blk_ext! [iblk, hi]

/-- The queries' gains of a grid point. -/
theorem qn_block (c : Dev nD) (t : Fin cfg0.N) (d : Fin 384) : (iblk m c 3 t (ix2 0 d) : EReal) = a3 m c (ix1 d) := by
  have hi := (index_eq t).2.2.2.1
  refine Eq.trans (b := (V m c main_v46 (ix2 0 d) : EReal)) ?_ (qn_apply m c _)
  blk_ext! [iblk, hi]

/-- The queries' weights of a grid point. -/
theorem wq_block (c : Dev nD) (t : Fin cfg0.N) (k : Fin 384) (j : Fin 1536) : (iblk m c 4 t (ix2 k j) : EReal) = V m c main_v14 (ix2 k j) := by
  have hi := (index_eq t).2.2.2.2.1
  blk_ext! [iblk, hi]

/-- The keys' gains of a grid point. -/
theorem kn_block (c : Dev nD) (t : Fin cfg0.N) (d : Fin 256) : (iblk m c 5 t (ix2 0 d) : EReal) = a5 m c (ix1 d) := by
  have hi := (index_eq t).2.2.2.2.2.1
  refine Eq.trans (b := (V m c main_v47 (ix2 0 d) : EReal)) ?_ (kn_apply m c _)
  blk_ext! [iblk, hi]

/-- The keys' and values' weights of a grid point. -/
theorem wk_block (c : Dev nD) (t : Fin cfg0.N) (k : Fin 256) (j : Fin 2048) : (iblk m c 6 t (ix2 k j) : EReal) = V m c main_v21 (ix2 k j) := by
  have hi := (index_eq t).2.2.2.2.2.2.1
  blk_ext! [iblk, hi]

/-- The cosines of a grid point. -/
theorem rc_block (c : Dev nD) (t : Fin cfg0.N) (a : Fin 512) (l : Fin 128) : (iblk m c 7 t (ix2 a l) : EReal) = cs (pos t a) ⟨l % 32, by omega⟩ := by
  have hi := (index_eq t).2.2.2.2.2.2.2.1
  have e : pos t a = ⟨t.val % 4 * 512 + a, by omega⟩ := Fin.ext (by show (t.val * 512 + a.val) % 2048 = t.val % 4 * 512 + a.val; omega)
  refine Eq.trans (b := (V m c main_v41 (ix2 (pos t a) l) : EReal)) ?_ (rc_apply m c _ _)
  rw [e]
  blk_ext [iblk, hi]

/-- The sines of a grid point. -/
theorem rs_block (c : Dev nD) (t : Fin cfg0.N) (a : Fin 512) (l : Fin 128) : (iblk m c 8 t (ix2 a l) : EReal)
    = if l.val % 64 < 32 then -(sn (pos t a) ⟨l % 32, by omega⟩) else sn (pos t a) ⟨l % 32, by omega⟩ := by
  have hi := (index_eq t).2.2.2.2.2.2.2.2
  have e : pos t a = ⟨t.val % 4 * 512 + a, by omega⟩ := Fin.ext (by show (t.val * 512 + a.val) % 2048 = t.val % 4 * 512 + a.val; omega)
  refine Eq.trans (b := (V m c main_v44 (ix2 (pos t a) l) : EReal)) ?_ (rs_apply m c _ _)
  rw [e]
  blk_ext [iblk, hi]

/-- A projected feature before the zeros. -/
theorem lat_low (c : Dev nD) (t : Fin cfg0.N) (a : Fin 512) (j : Fin 1792) (h : j.val < 704) :
    tlat (iblk m c 0 t) (iblk m c 1 t) (iblk m c 2 t) a j = lat (a0 m c) (a1 m c) (a2 m c) (seq t a) (pos t a) ⟨j, by omega⟩ := by
  have hw : ∀ k : Fin 1024, (iblk m c 2 t (ix2 k j) : EReal) = a2 m c (ix2 k ⟨j, by omega⟩) := fun k =>
    (win_block m c t k j).trans ((win_apply m c k j).trans (dif_pos h))
  unfold tlat lat
  simp only [x_block, g_block, hw]

/-- A projected feature after the zeros. -/
theorem lat_high (c : Dev nD) (t : Fin cfg0.N) (a : Fin 512) (j : Fin 1792) (h : 768 ≤ j.val) :
    tlat (iblk m c 0 t) (iblk m c 1 t) (iblk m c 2 t) a j = lat (a0 m c) (a1 m c) (a2 m c) (seq t a) (pos t a) ⟨j - 64, by omega⟩ := by
  have hw : ∀ k : Fin 1024, (iblk m c 2 t (ix2 k j) : EReal) = a2 m c (ix2 k ⟨j - 64, by omega⟩) := fun k =>
    (win_block m c t k j).trans ((win_apply m c k j).trans ((dif_neg (by omega)).trans (dif_neg (by omega))))
  unfold tlat lat
  simp only [x_block, g_block, hw]

/-- The latent features of the queries. -/
theorem lat_q (c : Dev nD) (t : Fin cfg0.N) (a : Fin 512) :
    (fun d : Fin 384 => tlat (iblk m c 0 t) (iblk m c 1 t) (iblk m c 2 t) a ⟨d, by omega⟩)
      = fun d : Fin 384 => lat (a0 m c) (a1 m c) (a2 m c) (seq t a) (pos t a) ⟨d, by omega⟩ :=
  funext fun d => lat_low m c t a ⟨d, by omega⟩ (by show d.val < 704; omega)

/-- The latent features of keys and values. -/
theorem lat_k (c : Dev nD) (t : Fin cfg0.N) (a : Fin 512) :
    (fun d : Fin 256 => tlat (iblk m c 0 t) (iblk m c 1 t) (iblk m c 2 t) a ⟨384 + d, by omega⟩)
      = fun d : Fin 256 => lat (a0 m c) (a1 m c) (a2 m c) (seq t a) (pos t a) ⟨384 + d, by omega⟩ :=
  funext fun d => lat_low m c t a ⟨384 + d, by omega⟩ (by show 384 + d.val < 704; omega)

/-- A query feature that is not rotated. -/
theorem qry_low (c : Dev nD) (t : Fin cfg0.N) (a : Fin 512) (j : Fin 1536) (h : j.val < 1024) :
    tqry (iblk m c 0 t) (iblk m c 1 t) (iblk m c 2 t) (iblk m c 3 t) (iblk m c 4 t) a j
      = qry (a0 m c) (a1 m c) (a2 m c) (a3 m c) (a4 m c) (seq t a) (pos t a) ⟨j / 128 * 192 + j % 128, by omega⟩ := by
  have hw : ∀ k : Fin 384, (iblk m c 4 t (ix2 k j) : EReal)
      = a4 m c (ix2 k ⟨j / 128 * 192 + j % 128, by omega⟩) * Ideal.ofBits .f32 0x3DD53B95#32 := fun k =>
    (wq_block m c t k j).trans ((wq_apply m c k j).trans (dif_pos h))
  unfold tqry qry
  rw [lat_q, ← up_scaled]
  simp only [qn_block, hw]

/-- A query feature that is rotated. -/
theorem qry_high (c : Dev nD) (t : Fin cfg0.N) (a : Fin 512) (j : Fin 1536) (h : 1024 ≤ j.val) :
    tqry (iblk m c 0 t) (iblk m c 1 t) (iblk m c 2 t) (iblk m c 3 t) (iblk m c 4 t) a j
      = qry (a0 m c) (a1 m c) (a2 m c) (a3 m c) (a4 m c) (seq t a) (pos t a) ⟨(j - 1024) / 64 * 192 + (128 + (j - 1024) % 64), by omega⟩ := by
  have hw : ∀ k : Fin 384, (iblk m c 4 t (ix2 k j) : EReal)
      = a4 m c (ix2 k ⟨(j - 1024) / 64 * 192 + (128 + (j - 1024) % 64), by omega⟩) * Ideal.ofBits .f32 0x3DD53B95#32 := fun k =>
    (wq_block m c t k j).trans ((wq_apply m c k j).trans (dif_neg (by omega)))
  unfold tqry qry
  rw [lat_q, ← up_scaled]
  simp only [qn_block, hw]

/-- A key feature. -/
theorem kv_low (c : Dev nD) (t : Fin cfg0.N) (a : Fin 512) (j : Fin 2048) (h : j.val < 1024) :
    tkv (iblk m c 0 t) (iblk m c 1 t) (iblk m c 2 t) (iblk m c 5 t) (iblk m c 6 t) a j
      = kv (a0 m c) (a1 m c) (a2 m c) (a5 m c) (a6 m c) (seq t a) (pos t a) ⟨j / 128 * 256 + j % 128, by omega⟩ := by
  have hw : ∀ k : Fin 256, (iblk m c 6 t (ix2 k j) : EReal) = a6 m c (ix2 k ⟨j / 128 * 256 + j % 128, by omega⟩) := fun k =>
    (wk_block m c t k j).trans ((wk_apply m c k j).trans (dif_pos h))
  unfold tkv kv
  rw [lat_k]
  simp only [kn_block, hw]

/-- A value feature. -/
theorem kv_high (c : Dev nD) (t : Fin cfg0.N) (a : Fin 512) (j : Fin 2048) (h : 1024 ≤ j.val) :
    tkv (iblk m c 0 t) (iblk m c 1 t) (iblk m c 2 t) (iblk m c 5 t) (iblk m c 6 t) a j
      = kv (a0 m c) (a1 m c) (a2 m c) (a5 m c) (a6 m c) (seq t a) (pos t a) ⟨(j - 1024) / 128 * 256 + (128 + (j - 1024) % 128), by omega⟩ := by
  have hw : ∀ k : Fin 256, (iblk m c 6 t (ix2 k j) : EReal)
      = a6 m c (ix2 k ⟨(j - 1024) / 128 * 256 + (128 + (j - 1024) % 128), by omega⟩) := fun k =>
    (wk_block m c t k j).trans ((wk_apply m c k j).trans (dif_neg (by omega)))
  unfold tkv kv
  rw [lat_k]
  simp only [kn_block, hw]

/-- The block of queries is the reference's. -/
theorem tq_eq (c : Dev nD) (t : Fin cfg0.N) (a : Fin 512) (l : Fin 2048) :
    tq (iblk m c 0 t) (iblk m c 1 t) (iblk m c 2 t) (iblk m c 3 t) (iblk m c 4 t) (iblk m c 7 t) (iblk m c 8 t) a l
      = if h : l.val % 256 < 128 then qry (a0 m c) (a1 m c) (a2 m c) (a3 m c) (a4 m c) (seq t a) (pos t a) ⟨l / 256 * 192 + l % 256, by omega⟩
        else if h' : l.val % 256 < 192 then
          rope (fun j => qry (a0 m c) (a1 m c) (a2 m c) (a3 m c) (a4 m c) (seq t a) (pos t a) ⟨l / 256 * 192 + (128 + j), by omega⟩)
            (cs (pos t a)) (sn (pos t a)) ⟨l % 256 - 128, by omega⟩
        else 0 := by
  unfold tq
  by_cases h : l.val % 256 < 128
  · rw [if_pos h, dif_pos h, qry_low m c t a _ (by show l.val / 256 * 128 + l.val % 256 % 128 < 1024; omega)]
    refine congrArg _ (Fin.ext ?_)
    show (l.val / 256 * 128 + l.val % 256 % 128) / 128 * 192 + (l.val / 256 * 128 + l.val % 256 % 128) % 128 = l.val / 256 * 192 + l.val % 256
    omega
  · rw [if_neg h, dif_neg h]
    by_cases h' : l.val % 256 < 192
    · rw [if_pos h', dif_pos h']
      refine (turned_eq _ _ _ (cs (pos t a)) (sn (pos t a)) (fun l => rc_block m c t a l) (fun l => rs_block m c t a l) _
        (⟨l % 256 - 128, by omega⟩ : Fin 64) (l.val / 256 % 2) (by omega) ?_).trans ?_
      · show l.val / 256 % 2 * 64 + l.val % 64 = l.val / 256 % 2 * 64 + (l.val % 256 - 128)
        omega
      · refine congrArg (fun f => rope f _ _ _) (funext fun j => ?_)
        refine (qry_high m c t a _ (by show 1024 ≤ 1024 + l.val / 512 * 128 + (l.val / 256 % 2 * 64 + j.val); omega)).trans ?_
        refine congrArg _ (Fin.ext ?_)
        show (1024 + l.val / 512 * 128 + (l.val / 256 % 2 * 64 + j.val) - 1024) / 64 * 192
          + (128 + (1024 + l.val / 512 * 128 + (l.val / 256 % 2 * 64 + j.val) - 1024) % 64) = l.val / 256 * 192 + (128 + j.val)
        omega
    · rw [if_neg h', dif_neg h']

/-- The block of the shared key is the reference's. -/
theorem shared_eq (c : Dev nD) (t : Fin cfg0.N) (a : Fin 512) (l : Fin 128) :
    leftHead (fun k => tlat (iblk m c 0 t) (iblk m c 1 t) (iblk m c 2 t) a ⟨640 + k, by omega⟩) (fun k => iblk m c 7 t (ix2 a k))
        (fun k => iblk m c 8 t (ix2 a k)) l
      = if h : l.val < 64 then rope (fun j => lat (a0 m c) (a1 m c) (a2 m c) (seq t a) (pos t a) ⟨640 + j, by omega⟩)
          (cs (pos t a)) (sn (pos t a)) ⟨l, h⟩ else 0 := by
  unfold leftHead
  by_cases h : l.val < 64
  · rw [if_pos h, dif_pos h]
    refine (turned_eq _ _ _ (cs (pos t a)) (sn (pos t a)) (fun l => rc_block m c t a l) (fun l => rs_block m c t a l) l
      (⟨l, h⟩ : Fin 64) 0 (by omega) ?_).trans ?_
    · show l.val = 0 * 64 + l.val
      omega
    · refine congrArg (fun f => rope f _ _ _) (funext fun j => ?_)
      refine (lat_low m c t a _ (by show 640 + (0 * 64 + j.val) < 704; omega)).trans ?_
      refine congrArg _ (Fin.ext ?_)
      show 640 + (0 * 64 + j.val) = 640 + j.val
      omega
  · rw [if_neg h, dif_neg h]

end Cert.FrontMatch

end
-- ==== Proof.Front.lean ====
/-
  The front of the latent attention layer: the kernel computes the reference. A grid point takes 512 tokens, norms and
  projects them, and leaves their queries, keys, shared rotated key, values and gates.
-/
module

public import proofs.«01_k».proof.Defs
public import proofs.«01_k».proof.Proof.FrontOut
public import proofs.«01_k».proof.Proof.FrontMatch
public import proofs.«01_k».proof.Proof.Gen.FrontIdeal.Value
public import proofs.«01_k».proof.Proof.Gen.FrontReferenceIdeal.Read
public import Idealize.ShloMosaic.Lib.Quiescent

@[expose] public section

set_option maxRecDepth 16384

noncomputable section

namespace Cert.FrontCall

open Idealize.ShloMosaic Idealize.SL.Sem Cert.FrontIdeal Cert.FrontIdeal.Gen
open Cert.FrontReferenceIdeal.Read
open Cert.FrontTile Cert.FrontMatch
open Cert.FrontRef (lat)

variable (m : (ℓ : Loc nD τ sig) → Buf (Elt Ideal) ℓ)

/-- Which blocks the outputs' windows take at a grid point. -/
theorem places : ∀ t : Fin grid0.N, win0_9.index t = ![t.val, 0] ∧ win0_10.index t = ![t.val, 0] ∧ win0_11.index t = ![t.val, 0]
    ∧ win0_12.index t = ![t.val, 0] ∧ win0_13.index t = ![t.val, 0] := by
  decide +kernel

/-- The reference's queries at the kernel's arguments. -/
def result0 (c : Dev nD) : Buf (Elt Ideal) ((c.tc : Thread nD τ).loc main_v48_0) :=
  val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's keys at the kernel's arguments. -/
def result1 (c : Dev nD) : Buf (Elt Ideal) ((c.tc : Thread nD τ).loc main_v48_1) :=
  val_main_v117 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))

/-- The reference's shared rotated key at the kernel's arguments. -/
def result2 (c : Dev nD) : Buf (Elt Ideal) ((c.tc : Thread nD τ).loc main_v48_2) :=
  val_main_v119 (F := Ideal) (m ((c.tc : Thread nD τ).loc main_arg0)) (m ((c.tc : Thread nD τ).loc main_arg1)) (m ((c.tc : Thread nD τ).loc main_arg2))

/-- The reference's values at the kernel's arguments. -/
def result3 (c : Dev nD) : Buf (Elt Ideal) ((c.tc : Thread nD τ).loc main_v48_3) :=
  val_main_v121 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))

/-- The reference's gates at the kernel's arguments. -/
def result4 (c : Dev nD) : Buf (Elt Ideal) ((c.tc : Thread nD τ).loc main_v48_4) :=
  val_main_v123 (F := Ideal) (m ((c.tc : Thread nD τ).loc main_arg0)) (m ((c.tc : Thread nD τ).loc main_arg1)) (m ((c.tc : Thread nD τ).loc main_arg2))

/-- The queries after the run are the reference's. -/
theorem final0 (c : Dev nD) : (dats m 0 c).arrAt 9 cfg0.N = result0 m c := by
  refine (dats m 0 c).arrAt_eq_of_covers 9 _ (by decide +kernel) fun t hf y => ?_
  blk_simp
  rw [after0_9]
  obtain ⟨a, l, rfl⟩ : ∃ (a : Fin 512) (l : Fin 2048), y = ix2 a l := ⟨y 0, y 1, eq_ix2 y⟩
  rw [FrontOut.out_eq]
  refine (tq_eq m c t a l).trans ?_
  have he : ((View.whole main_v48_0).slice (win0_9.rect t)).emb (ix2 a l) = ix2 (token t a) l := by
    have hi := (places t).1
    unfold token
    blk_ext [hi]
  rw [he]
  refine Eq.trans ?_ (FrontRef.result0 _ _ _ _ _ (token t a) l).symm
  rfl

/-- The keys after the run are the reference's. -/
theorem final1 (c : Dev nD) : (dats m 0 c).arrAt 10 cfg0.N = result1 m c := by
  refine (dats m 0 c).arrAt_eq_of_covers 10 _ (by decide +kernel) fun t hf y => ?_
  blk_simp
  rw [after0_10]
  obtain ⟨a, l, rfl⟩ : ∃ (a : Fin 512) (l : Fin 1024), y = ix2 a l := ⟨y 0, y 1, eq_ix2 y⟩
  unfold_out out0_10
  frame_out
  refine (key_apply _ _ _ _ _ a l).trans ?_
  refine (kv_low m c t a _ (by show l.val < 1024; omega)).trans ?_
  have he : ((View.whole main_v48_1).slice (win0_10.rect t)).emb (ix2 a l) = ix2 (token t a) l := by
    have hi := (places t).2.1
    unfold token
    blk_ext [hi]
  rw [he]
  refine Eq.trans ?_ (FrontRef.result1 _ _ _ _ _ (token t a) l).symm
  refine congrArg _ (Fin.ext ?_)
  show l.val / 128 * 256 + l.val % 128 = l.val / 128 * 256 + l.val % 128
  rfl

/-- The shared rotated key after the run is the reference's. -/
theorem final2 (c : Dev nD) : (dats m 0 c).arrAt 11 cfg0.N = result2 m c := by
  refine (dats m 0 c).arrAt_eq_of_covers 11 _ (by decide +kernel) fun t hf y => ?_
  blk_simp
  rw [after0_11]
  obtain ⟨a, l, rfl⟩ : ∃ (a : Fin 512) (l : Fin 128), y = ix2 a l := ⟨y 0, y 1, eq_ix2 y⟩
  unfold_out out0_11
  frame_out
  refine (shared_apply _ _ _ a l).trans ?_
  rw [FrontOut.cos_id, FrontOut.sin_id]
  simp only [tlat_apply]
  refine (shared_eq m c t a l).trans ?_
  have he : ((View.whole main_v48_2).slice (win0_11.rect t)).emb (ix2 a l) = ix2 (token t a) l := by
    have hi := (places t).2.2.1
    unfold token
    blk_ext [hi]
  rw [he]
  refine Eq.trans ?_ (FrontRef.result2 _ _ _ (token t a) l).symm
  rfl

/-- The values after the run are the reference's. -/
theorem final3 (c : Dev nD) : (dats m 0 c).arrAt 12 cfg0.N = result3 m c := by
  refine (dats m 0 c).arrAt_eq_of_covers 12 _ (by decide +kernel) fun t hf y => ?_
  blk_simp
  rw [after0_12]
  obtain ⟨a, l, rfl⟩ : ∃ (a : Fin 512) (l : Fin 1024), y = ix2 a l := ⟨y 0, y 1, eq_ix2 y⟩
  unfold_out out0_12
  frame_out
  refine (value_apply _ _ _ _ _ a l).trans ?_
  refine (kv_high m c t a _ (by show 1024 ≤ 1024 + l.val; omega)).trans ?_
  have he : ((View.whole main_v48_3).slice (win0_12.rect t)).emb (ix2 a l) = ix2 (token t a) l := by
    have hi := (places t).2.2.2.1
    unfold token
    blk_ext [hi]
  rw [he]
  refine Eq.trans ?_ (FrontRef.result3 _ _ _ _ _ (token t a) l).symm
  refine congrArg _ (Fin.ext ?_)
  show (1024 + l.val - 1024) / 128 * 256 + (128 + (1024 + l.val - 1024) % 128) = l.val / 128 * 256 + (128 + l.val % 128)
  omega

/-- The gates after the run are the reference's. -/
theorem final4 (c : Dev nD) : (dats m 0 c).arrAt 13 cfg0.N = result4 m c := by
  refine (dats m 0 c).arrAt_eq_of_covers 13 _ (by decide +kernel) fun t hf y => ?_
  blk_simp
  rw [after0_13]
  obtain ⟨a, l, rfl⟩ : ∃ (a : Fin 512) (l : Fin 1024), y = ix2 a l := ⟨y 0, y 1, eq_ix2 y⟩
  unfold_out out0_13
  frame_out
  refine (gate_apply _ a l).trans ?_
  rw [silu_eq, tlat_apply, lat_high m c t a _ (by show 768 ≤ 768 + l.val; omega)]
  have he : ((View.whole main_v48_4).slice (win0_13.rect t)).emb (ix2 a l) = ix2 (token t a) l := by
    have hi := (places t).2.2.2.2
    unfold token
    blk_ext [hi]
  rw [he]
  refine Eq.trans ?_ (FrontRef.result4 _ _ _ (token t a) l).symm
  refine congrArg _ (congrArg _ (Fin.ext ?_))
  show 768 + l.val - 64 = 704 + l.val
  omega

/-- The reference's frame: it holds no counter. -/
theorem reference_frame : Cert.quiescent_FrontReferenceIdeal (hFrontReferenceIdeal := Cert.FrontReferenceIdeal.Gen.facts) := fun m g _ =>
  (θ_run _ _ _).mono (fun _ h => ⟨fun c => (h c).2.2.2.2.2, sem_eq_zero_of_no_sems (by decide) _⟩) (Cert.FrontReferenceIdeal.Value.run m g)

/-- The kernel and the reference end with the same five arrays. -/
theorem algebraic : Cert.algebraic_FrontIdeal_FrontReferenceIdeal (hFrontIdeal := Cert.FrontIdeal.Gen.facts)
    (hFrontReferenceIdeal := Cert.FrontReferenceIdeal.Gen.facts) := fun m g m' g' _ hagree =>
  ⟨fun c => result0 m c, fun c => result1 m c, fun c => result2 m c, fun c => result3 m c, fun c => result4 m c,
    (θ_run _ _ _).mono (fun _ h c => ⟨(h c).1.trans (final0 m c), (h c).2.1.trans (final1 m c), (h c).2.2.1.trans (final2 m c),
      (h c).2.2.2.1.trans (final3 m c), (h c).2.2.2.2.1.trans (final4 m c), (h c).2.2.2.2.2⟩) (Cert.FrontIdeal.Value.run_blocks m g),
    (θ_run _ _ _).mono (fun _ h c => ⟨by
      refine (h c).1.trans ((val_main_v115_eq m' c).trans ?_)
      obtain ⟨h0, h1, h2, h3, h4, h5, h6⟩ := hagree c
      rw [h0, h1, h2, h3, h4]
      rfl, by
      refine (h c).2.1.trans ((val_main_v117_eq _ _ _ _ _).trans ?_)
      obtain ⟨h0, h1, h2, h3, h4, h5, h6⟩ := hagree c
      rw [h0, h1, h2, h5, h6]
      rfl, by
      refine (h c).2.2.1.trans ((val_main_v119_eq m' c).trans ?_)
      obtain ⟨h0, h1, h2, h3, h4, h5, h6⟩ := hagree c
      rw [h0, h1, h2]
      rfl, by
      refine (h c).2.2.2.1.trans ((val_main_v121_eq _ _ _ _ _).trans ?_)
      obtain ⟨h0, h1, h2, h3, h4, h5, h6⟩ := hagree c
      rw [h0, h1, h2, h5, h6]
      rfl, by
      refine (h c).2.2.2.2.1.trans ((val_main_v123_eq _ _ _).trans ?_)
      obtain ⟨h0, h1, h2, h3, h4, h5, h6⟩ := hagree c
      rw [h0, h1, h2]
      rfl, (h c).2.2.2.2.2⟩) (Cert.FrontReferenceIdeal.Value.run m' g')⟩

end Cert.FrontCall

end
-- ==== Proof.ProjTile.lean ====
/-
  The block a grid point of the input projection leaves. For each of eight pairs of batches it multiplies the weights of
  1024 channels with the pair's 512 token rows, rounds the two batches' products into pairs, and stores the pairs of 128
  tokens at a time as two rows of every channel.
-/
module

public import Idealize.ShloMosaic.Lib.Pointwise
public import Idealize.ShloMosaic.Lib.Pipeline.ValueKit
public import Idealize.ShloMosaic.Lib.Pipeline.ReadBack
public import Idealize.ShloMosaic.Lib.WholeRead
public import proofs.«01_k».proof.Proof.Gen.ProjIdeal.Frame

@[expose] public section

set_option maxRecDepth 16384

noncomputable section

namespace Cert.ProjTile

open Idealize.ShloMosaic Cert.ProjIdeal Cert.ProjIdeal.Gen

/-- A channel's product with a token row. -/
def prod (w x : Fin 1024 → EReal) : EReal := ∑ d : Fin 1024, w d * x d

variable (w : Vec Ideal S1024x1024 .bf16) (x : Vec Ideal S2x256x1024 .bf16)

/-- The products of a pair of batches, at an element. -/
theorem both_apply (j : Fin 1024) (b : Fin 2) (k : Fin 256) :
    k0_pay3 (F := Ideal) w x (ix2 j ⟨b * 256 + k, by omega⟩) = prod (fun d => w (ix2 j d)) (fun d => x (ix3 b k d)) := by
  pointwise [k0_pay3, k0_pay2]
  rfl

/-- The first 128 tokens of a pair, at an element. -/
theorem first_apply (j : Fin 1024) (b : Fin 2) (k : Fin 128) :
    k0_pay6 (F := Ideal) w x (ix5 0 0 j b k) = prod (fun d => w (ix2 j d)) (fun d => x (ix3 b ⟨k, by omega⟩ d)) := by
  pointwise [k0_pay6, k0_pay4, k0_pay5]
  have h := both_apply w x j b ⟨k.val, by omega⟩
  fin_vals b with hb
  · rw [if_pos (by omega)]
    refine Eq.trans (congrArg _ ?_) h
    funext i
    refine Fin.ext ?_
    fin_cases i
    · show (j.val * 2 + b.val) / 2 = j.val
      omega
    · show k.val = b.val * 256 + (k.val)
      omega
  · rw [if_neg (by omega)]
    refine Eq.trans (congrArg _ ?_) h
    funext i
    refine Fin.ext ?_
    fin_cases i
    · show (j.val * 2 + b.val) / 2 = j.val
      omega
    · show 256 + (k.val) = b.val * 256 + (k.val)
      omega

/-- The last 128 tokens of a pair, at an element. -/
theorem last_apply (j : Fin 1024) (b : Fin 2) (k : Fin 128) :
    k0_pay7 (F := Ideal) w x (ix5 0 0 j b k) = prod (fun d => w (ix2 j d)) (fun d => x (ix3 b ⟨128 + k, by omega⟩ d)) := by
  pointwise [k0_pay7, k0_pay4, k0_pay5]
  have h := both_apply w x j b ⟨128 + k.val, by omega⟩
  fin_vals b with hb
  · rw [if_pos (by omega)]
    refine Eq.trans (congrArg _ ?_) h
    funext i
    refine Fin.ext ?_
    fin_cases i
    · show (j.val * 2 + b.val) / 2 = j.val
      omega
    · show 128 + k.val = b.val * 256 + (128 + k.val)
      omega
  · rw [if_neg (by omega)]
    refine Eq.trans (congrArg _ ?_) h
    funext i
    refine Fin.ext ?_
    fin_cases i
    · show (j.val * 2 + b.val) / 2 = j.val
      omega
    · show 256 + (128 + k.val) = b.val * 256 + (128 + k.val)
      omega

/-- Weights read whole and cast to their own shape are themselves. -/
theorem cast_id : k0_pay2 (F := Ideal) w = w := funext fun y => by
  obtain ⟨a, k, rfl⟩ : ∃ (a k : Fin 1024), y = ix2 a k := ⟨y 0, y 1, eq_ix2 y⟩
  pointwise [k0_pay2]

variable (X : Vec Ideal S16x256x1024 .bf16)

/-- The block as an array: channel `j` of a token of a batch. -/
def whole : Vec Ideal S1x2x1024x16x128 .bf16 := fun y =>
  prod (fun d => w (ix2 (y 2) d)) (fun d => X (ix3 (y 3) ⟨(y 1) * 128 + (y 4), by have h1 : (y 1).val < 2 := (y 1).isLt; have h4 : (y 4).val < 128 := (y 4).isLt; omega⟩ d))

/-- Where a piece's element lies in the block. -/
theorem emb_eq (q o : Nat) (hq : q < 2) (ho : o + 2 ≤ 16) (hx) (j : Fin 1024) (b : Fin 2) (k : Fin 128) :
    (Rect.unit (s := S1x2x1024x16x128) ![0, q, 0, o, 0] S1x1x1024x2x128.size hx).emb (ix5 0 0 j b k)
      = ix5 (0 : Fin 1) (⟨q, hq⟩ : Fin 2) j (⟨o + b, by omega⟩ : Fin 16) k := by
  funext i
  refine Fin.ext ?_
  rw [ValueKit.rect_emb_unit_val]
  fin_cases i
  · rfl
  · rfl
  · show 0 + j.val = j.val
    omega
  · rfl
  · show 0 + k.val = k.val
    omega

/-- A pair of batches read out of the block. -/
theorem ld_apply (o : Nat) (ho : o + 2 ≤ 16) (hx) (b : Fin 2) (k : Fin 256) (d : Fin 1024) :
    View.ld (Val := Elt Ideal) X (Rect.unit (s := S16x256x1024) ![o, 0, 0] S2x256x1024.size hx) (ix3 b k d)
      = X (ix3 (⟨o + b, by omega⟩ : Fin 16) k d) := by
  show X ((Rect.unit (s := S16x256x1024) ![o, 0, 0] S2x256x1024.size hx).emb (ix3 b k d)) = _
  refine congrArg X (funext fun i => Fin.ext ?_)
  rw [ValueKit.rect_emb_unit_val]
  fin_cases i
  · rfl
  · show 0 + k.val = k.val
    omega
  · show 0 + d.val = d.val
    omega

/-- A piece holding the first 128 tokens of a pair of batches. -/
theorem first_piece (o : Nat) (ho : o + 2 ≤ 16) (hx hy) (P : Vec Ideal S1x1x1024x2x128 .bf16)
    (hP : P = k0_pay6 (F := Ideal) w (View.ld X (Rect.unit (s := S16x256x1024) ![o, 0, 0] S2x256x1024.size hx))) (y) :
    P y = whole w X ((Rect.unit (s := S1x2x1024x16x128) ![0, 0, 0, o, 0] S1x1x1024x2x128.size hy).emb y) := by
  obtain ⟨j, b, k, rfl⟩ : ∃ (j : Fin 1024) (b : Fin 2) (k : Fin 128), y = ix5 (0 : Fin 1) (0 : Fin 1) j b k :=
    ⟨y 2, y 3, y 4, (eq_ix5 y).trans (by congr 1 <;> exact Subsingleton.elim (α := Fin 1) _ _)⟩
  rw [emb_eq 0 o (by omega) ho, hP, first_apply]
  unfold whole
  simp only [ld_apply X o ho hx]
  refine congrArg (prod _) (funext fun d => congrArg (fun z => X (ix3 _ z d)) (Fin.ext ?_))
  show k.val = 0 * 128 + k.val
  omega

/-- A piece holding the last 128 tokens of a pair of batches. -/
theorem last_piece (o : Nat) (ho : o + 2 ≤ 16) (hx hy) (P : Vec Ideal S1x1x1024x2x128 .bf16)
    (hP : P = k0_pay7 (F := Ideal) w (View.ld X (Rect.unit (s := S16x256x1024) ![o, 0, 0] S2x256x1024.size hx))) (y) :
    P y = whole w X ((Rect.unit (s := S1x2x1024x16x128) ![0, 1, 0, o, 0] S1x1x1024x2x128.size hy).emb y) := by
  obtain ⟨j, b, k, rfl⟩ : ∃ (j : Fin 1024) (b : Fin 2) (k : Fin 128), y = ix5 (0 : Fin 1) (0 : Fin 1) j b k :=
    ⟨y 2, y 3, y 4, (eq_ix5 y).trans (by congr 1 <;> exact Subsingleton.elim (α := Fin 1) _ _)⟩
  rw [emb_eq 1 o (by omega) ho, hP, last_apply]
  unfold whole
  simp only [ld_apply X o ho hx]
  refine congrArg (prod _) (funext fun d => congrArg (fun z => X (ix3 _ z d)) (Fin.ext ?_))
  show 128 + k.val = 1 * 128 + k.val
  omega

/-- The block a grid point leaves. -/
theorem out_eq (y : S1x2x1024x16x128.Idx) : out0_2 (F := Ideal) X w y = whole w X y := by
  unfold_out out0_2
  have hw : View.ld (Val := Elt Ideal) w r0_0 = w := by
    simp (disch := decide) only [View.ld_unit_lit']
  rw [hw]
  refine View.canon_apply_of_pieces (Val := Elt Ideal) (whole w X) _ ?_ y ?_
  · refine View.PiecesOf.mem ?_
    exact ⟨last_piece w X 14 (by decide) inb_S16x256x1024_S2x256x1024_14_0_0 inb_S1x2x1024x16x128_S1x1x1024x2x128_0_1_0_14_0 _ rfl,
      first_piece w X 14 (by decide) inb_S16x256x1024_S2x256x1024_14_0_0 inb_S1x2x1024x16x128_S1x1x1024x2x128_0_0_0_14_0 _ rfl,
      last_piece w X 12 (by decide) inb_S16x256x1024_S2x256x1024_12_0_0 inb_S1x2x1024x16x128_S1x1x1024x2x128_0_1_0_12_0 _ rfl,
      first_piece w X 12 (by decide) inb_S16x256x1024_S2x256x1024_12_0_0 inb_S1x2x1024x16x128_S1x1x1024x2x128_0_0_0_12_0 _ rfl,
      last_piece w X 10 (by decide) inb_S16x256x1024_S2x256x1024_10_0_0 inb_S1x2x1024x16x128_S1x1x1024x2x128_0_1_0_10_0 _ rfl,
      first_piece w X 10 (by decide) inb_S16x256x1024_S2x256x1024_10_0_0 inb_S1x2x1024x16x128_S1x1x1024x2x128_0_0_0_10_0 _ rfl,
      last_piece w X 8 (by decide) inb_S16x256x1024_S2x256x1024_8_0_0 inb_S1x2x1024x16x128_S1x1x1024x2x128_0_1_0_8_0 _ rfl,
      first_piece w X 8 (by decide) inb_S16x256x1024_S2x256x1024_8_0_0 inb_S1x2x1024x16x128_S1x1x1024x2x128_0_0_0_8_0 _ rfl,
      last_piece w X 6 (by decide) inb_S16x256x1024_S2x256x1024_6_0_0 inb_S1x2x1024x16x128_S1x1x1024x2x128_0_1_0_6_0 _ rfl,
      first_piece w X 6 (by decide) inb_S16x256x1024_S2x256x1024_6_0_0 inb_S1x2x1024x16x128_S1x1x1024x2x128_0_0_0_6_0 _ rfl,
      last_piece w X 4 (by decide) inb_S16x256x1024_S2x256x1024_4_0_0 inb_S1x2x1024x16x128_S1x1x1024x2x128_0_1_0_4_0 _ rfl,
      first_piece w X 4 (by decide) inb_S16x256x1024_S2x256x1024_4_0_0 inb_S1x2x1024x16x128_S1x1x1024x2x128_0_0_0_4_0 _ rfl,
      last_piece w X 2 (by decide) inb_S16x256x1024_S2x256x1024_2_0_0 inb_S1x2x1024x16x128_S1x1x1024x2x128_0_1_0_2_0 _ rfl,
      first_piece w X 2 (by decide) inb_S16x256x1024_S2x256x1024_2_0_0 inb_S1x2x1024x16x128_S1x1x1024x2x128_0_0_0_2_0 _ rfl,
      last_piece w X 0 (by decide) inb_S16x256x1024_S2x256x1024_0_0_0 inb_S1x2x1024x16x128_S1x1x1024x2x128_0_1_0_0_0 _ rfl,
      first_piece w X 0 (by decide) inb_S16x256x1024_S2x256x1024_0_0_0 inb_S1x2x1024x16x128_S1x1x1024x2x128_0_0_0_0_0 _ rfl, trivial⟩
  · exact View.cover_of_tiledL _ ![1, 1, 1024, 2, 128] rfl y

end Cert.ProjTile

end
-- ==== Proof.Proj.lean ====
/-
  The input projection of the Hyena layer computes the reference: every normed row times the input weights.
-/
module

public import proofs.«01_k».proof.Defs
public import proofs.«01_k».proof.Proof.ProjTile
public import proofs.«01_k».proof.Proof.Gen.ProjReferenceIdeal.Read
public import proofs.«01_k».proof.Proof.Gen.ProjReferenceIdeal.Run
public import Idealize.ShloMosaic.Lib.Pointwise
public import Idealize.ShloMosaic.Lib.Pipeline.ValueKit
public import Idealize.ShloMosaic.Lib.WholeRead
public import Idealize.ShloMosaic.Lib.Quiescent
public import Idealize.ShloMosaic.Lib.StableHlo.ReadAt
public import Idealize.ShloMosaic.Lib.Bf16Pair

@[expose] public section

set_option maxRecDepth 16384

noncomputable section

namespace Cert.ProjCall

open Idealize.ShloMosaic Idealize.SL.Sem Cert.ProjIdeal Cert.ProjIdeal.Gen Cert.ProjTile

variable (m : (ℓ : Loc nD τ sig) → Buf (Elt Ideal) ℓ)

/-- Which blocks the windows take at a grid point. -/
theorem index_eq : ∀ t : Fin grid0.N, win0_0.index t = ![t.val / 32, t.val / 4 % 8, 0] ∧ win0_1.index t = ![t.val % 4, 0]
    ∧ win0_2.index t = ![t.val / 32, t.val / 4 % 8, t.val % 4, 0, 0] := by
  decide +kernel

/-- The prepared weights: the input weights, turned. -/
theorem weights_apply (c : Dev nD) (j : Fin 4096) (d : Fin 1024) :
    (V m c main_v1 (ix2 j d) : EReal) = m ((c.tc : Thread nD τ).loc main_arg1) (ix2 d j) := by
  unfold V
  after_reads_at

/-- The call's array: channel `j` of token `s * 128 + k` of batch `g * 16 + b`. -/
def called (c : Dev nD) : Vec Ideal S2x16x4096x16x128 .bf16 := fun y =>
  prod (fun d => m ((c.tc : Thread nD τ).loc main_arg1) (ix2 d (y 2)))
    (fun d => m ((c.tc : Thread nD τ).loc main_arg0)
      (ix3 ⟨(y 0) * 16 + (y 3), by have h0 : (y 0).val < 2 := (y 0).isLt; have h3 : (y 3).val < 16 := (y 3).isLt; omega⟩
        ⟨(y 1) * 128 + (y 4), by have h1 : (y 1).val < 16 := (y 1).isLt; have h4 : (y 4).val < 128 := (y 4).isLt; omega⟩ d))

/-- The array the call leaves. -/
theorem array_eq (c : Dev nD) : (dats m 0 c).arrAt 2 cfg0.N = called m c := by
  refine (dats m 0 c).arrAt_eq_of_covers 2 _ (by decide +kernel) fun t hf y => ?_
  blk_simp
  rw [after0_2]
  obtain ⟨q, j, b, k, rfl⟩ : ∃ (q : Fin 2) (j : Fin 1024) (b : Fin 16) (k : Fin 128), y = ix5 (0 : Fin 1) q j b k :=
    ⟨y 1, y 2, y 3, y 4, (eq_ix5 y).trans (by congr 1; exact Subsingleton.elim (α := Fin 1) _ _)⟩
  refine (out_eq _ _ _).trans ?_
  have ht : t.val < 64 := t.isLt
  have he : ((View.whole main_v2).slice (win0_2.rect t)).emb (ix5 (0 : Fin 1) q j b k)
      = ix5 (⟨t / 32, by omega⟩ : Fin 2) (⟨t / 4 % 8 * 2 + q, by omega⟩ : Fin 16) (⟨t % 4 * 1024 + j, by omega⟩ : Fin 4096) b k := by
    have hi := (index_eq t).2.2
    blk_ext [hi]
  rw [he]
  unfold whole called
  have e1 : ∀ d : Fin 1024, iblk m c 1 t (ix2 j d)
      = m ((c.tc : Thread nD τ).loc main_arg1) (ix2 d (⟨t % 4 * 1024 + j, by omega⟩ : Fin 4096)) := by
    intro d
    have hi := (index_eq t).2.1
    refine Eq.trans (b := (V m c main_v1 (ix2 (⟨t % 4 * 1024 + j, by omega⟩ : Fin 4096) d) : EReal)) ?_ (weights_apply m c _ _)
    blk_ext [iblk, hi]
  have e0 : ∀ (s : Fin 256) (d : Fin 1024), iblk m c 0 t (ix3 b s d)
      = m ((c.tc : Thread nD τ).loc main_arg0) (ix3 (⟨t / 32 * 16 + b, by omega⟩ : Fin 32) (⟨t / 4 % 8 * 256 + s, by omega⟩ : Fin 2048) d) := by
    intro s d
    have hi := (index_eq t).1
    blk_ext [iblk, V, hi]
  refine congrArg₂ prod (funext fun d => e1 d) (funext fun d => (e0 _ d).trans ?_)
  refine congrArg (fun z => m ((c.tc : Thread nD τ).loc main_arg0) (ix3 _ z d)) (Fin.ext ?_)
  show t.val / 4 % 8 * 256 + (q.val * 128 + k.val) = (t.val / 4 % 8 * 2 + q.val) * 128 + k.val
  omega

/-- The reference's result at the kernel's arguments. -/
def result (c : Dev nD) : Buf (Elt Ideal) ((c.tc : Thread nD τ).loc main_v4) :=
  Cert.ProjReferenceIdeal.Read.val_main_v2 (F := Ideal) (m ((c.tc : Thread nD τ).loc main_arg0)) (m ((c.tc : Thread nD τ).loc main_arg1))

/-- The reference's result at an element. -/
theorem result_apply (c : Dev nD) (a : Fin 32) (s : Fin 2048) (j : Fin 4096) : (result m c (ix3 a s j) : EReal)
    = prod (fun d => m ((c.tc : Thread nD τ).loc main_arg1) (ix2 d j)) (fun d => m ((c.tc : Thread nD τ).loc main_arg0) (ix3 a s d)) := by
  unfold result prod
  pointwise [Cert.ProjReferenceIdeal.Read.val_main_v2, Cert.ProjReferenceIdeal.Read.val_main_v1, Cert.ProjReferenceIdeal.Read.val_main_v0]
  exact Finset.sum_congr (M := EReal) rfl fun d _ => mul_comm (G := EReal) _ _

/-- The result after the host has put the call's array into the order of batches and tokens. -/
theorem final (c : Dev nD) : Pipeline.afterTail₀ cfgs (dats m) 0 (V0 m) [hostOps1] c main_v4 = result m c := by
  funext y
  obtain ⟨a, s, j, rfl⟩ : ∃ (a : Fin 32) (s : Fin 2048) (j : Fin 4096), y = ix3 a s j := ⟨y 0, y 1, y 2, eq_ix3 y⟩
  refine Eq.trans ?_ (result_apply m c a s j).symm
  unfold Pipeline.afterTail₀
  after_reads_at
  refine (congrFun ((Pipeline.withArrays_arr (τ := τ) spec0 (by decide) c (V0 m c) (fun w => (dats m 0 c).arrAt w (cfgs 0).N) 2).trans (array_eq m c)) _).trans ?_
  show prod _ _ = _
  have e1 : a.val / 16 * 16 + a.val % 16 = a.val := by omega
  have e2 : s.val / 128 * 128 + s.val % 128 = s.val := by omega
  refine congrArg (prod _) (funext fun d => congrArg (m ((c.tc : Thread nD τ).loc main_arg0)) ?_)
  exact congrArg₂ (fun u v => ix3 u v d) (Fin.ext e1) (Fin.ext e2)

/-- The reference's frame: it holds no counter. -/
theorem reference_frame : Cert.quiescent_ProjReferenceIdeal (hProjReferenceIdeal := Cert.ProjReferenceIdeal.Gen.facts) := fun m g _ =>
  (θ_run _ _ _).mono (fun _ h => ⟨fun c => (h c).2, sem_eq_zero_of_no_sems (by decide) _⟩) (Cert.ProjReferenceIdeal.Value.run m g)

/-- The pairs of rounded products: what the idealization rests on. -/
theorem preserves : Cert.preserves_Proj_ProjIdeal :=
  ⟨IdealRules.bf16_pair.packStatement _, IdealRules.bf16_pair.statement _ _⟩

/-- The kernel and the reference end with the same array. -/
theorem algebraic : Cert.algebraic_ProjIdeal_ProjReferenceIdeal (hProjIdeal := Cert.ProjIdeal.Gen.facts)
    (hProjReferenceIdeal := Cert.ProjReferenceIdeal.Gen.facts) := fun m g m' g' _ hagree =>
  ⟨fun c => result m c,
    (θ_run _ _ _).mono (fun _ h c => ⟨((h.2 c).2 main_v4 (Pipeline.mem_restRefs_of main_v4 (by decide) (by decide))).trans (final m c), h.1 c⟩)
      (θ_run_and (Cert.ProjIdeal.Gen.unchanged m g) (Cert.ProjIdeal.Gen.run_main m g)),
    (θ_run _ _ _).mono (fun _ h c => ⟨by
      refine (h c).1.trans ((Cert.ProjReferenceIdeal.Read.val_main_v2_eq _ _).trans ?_)
      obtain ⟨h0, h1⟩ := hagree c
      rw [h0, h1]
      rfl, (h c).2⟩) (Cert.ProjReferenceIdeal.Value.run m' g')⟩

end Cert.ProjCall

end
-- ==== Proof.lean ====
/-
  The claims of one version's calls, assembled: the frames of the kernels are the generated ones, and each call's module
  under Proof/ proves the reference's frame and that the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidIdeal.Value
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontIdeal.Value
public import proofs.«01_k».proof.Proof.Gen.FrontReferenceIdeal
public import proofs.«01_k».proof.Proof.Gen.FrontReferenceIdeal.Run
public import proofs.«01_k».proof.Proof.Gen.FrontReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Pre_finite_scores
public import proofs.«01_k».proof.Proof.Hyout
public import proofs.«01_k».proof.Proof.Attention
public import proofs.«01_k».proof.Proof.Mid
public import proofs.«01_k».proof.Proof.Front
public import proofs.«01_k».proof.Proof.Proj
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Attn.Gen.facts,
  Cert.AttnIdeal.Gen.facts,
  Cert.AttnReferenceIdeal.Gen.facts,
  Cert.Mid.Gen.facts,
  Cert.MidIdeal.Gen.facts,
  Cert.MidReferenceIdeal.Gen.facts,
  Cert.Front.Gen.facts,
  Cert.FrontIdeal.Gen.facts,
  Cert.FrontReferenceIdeal.Gen.facts,
  Cert.Proj.Gen.facts,
  Cert.ProjIdeal.Gen.facts,
  Cert.ProjReferenceIdeal.Gen.facts,
  Cert.Pre_finite_scores.Gen.facts,
  fun m g _ => Cert.Kernel.Gen.frame m g,
  fun m g _ => Cert.KernelIdeal.Gen.frame m g,
  Cert.Hyout.reference_frame,
  fun m g _ => Cert.Attn.Gen.frame m g,
  fun m g _ => Cert.AttnIdeal.Gen.frame m g,
  fun m g _ => Cert.AttnIdeal.Gen.frame m g,
  Cert.Attention.reference_frame,
  fun m g _ => Cert.Attention.reference_frame m g trivial,
  fun m g _ => Cert.Mid.Gen.frame m g,
  fun m g _ => Cert.MidIdeal.Gen.frame m g,
  Cert.Mid2.reference_frame,
  fun m g _ => Cert.Front.Gen.frame m g,
  fun m g _ => Cert.FrontIdeal.Gen.frame m g,
  Cert.FrontCall.reference_frame,
  fun m g _ => Cert.Proj.Gen.frame m g,
  fun m g _ => Cert.ProjIdeal.Gen.frame m g,
  Cert.ProjCall.reference_frame,
  trivial,
  Cert.Hyout.algebraic,
  trivial,
  Cert.Attention.algebraic,
  trivial,
  Cert.Mid2.algebraic,
  trivial,
  Cert.FrontCall.algebraic,
  Cert.ProjCall.preserves,
  Cert.ProjCall.algebraic⟩

end Cert.Proof

end
